-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_and_offsets_in_range [hPre_indices_and_offsets_in_range : Cert.Pre_indices_and_offsets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_and_offsets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_and_offsets_in_range [hPre_indices_and_offsets_in_range : Cert.Pre_indices_and_offsets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_and_offsets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_indices_and_offsets_in_range [hKernelIdeal : Cert.KernelIdeal.Facts] [hPre_indices_and_offsets_in_range : Cert.Pre_indices_and_offsets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_and_offsets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_and_offsets_in_range [hReferenceIdeal : Cert.ReferenceIdeal.Facts] [hPre_indices_and_offsets_in_range : Cert.Pre_indices_and_offsets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_and_offsets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_indices_and_offsets_in_range [hKernelIdeal : Cert.KernelIdeal.Facts] [hReferenceIdeal : Cert.ReferenceIdeal.Facts] [hPre_indices_and_offsets_in_range : Cert.Pre_indices_and_offsets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_and_offsets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_indices_and_offsets_in_range : Cert.Pre_indices_and_offsets_in_range.Facts),
    quiescent_Kernel (hKernel := hKernel)
    ∧ quiescent_KernelIdeal (hKernelIdeal := hKernelIdeal)
    ∧ quiescent_KernelIdeal_pre_indices_and_offsets_in_range (hKernelIdeal := hKernelIdeal) (hPre_indices_and_offsets_in_range := hPre_indices_and_offsets_in_range)
    ∧ quiescent_ReferenceIdeal (hReferenceIdeal := hReferenceIdeal)
    ∧ quiescent_ReferenceIdeal_pre_indices_and_offsets_in_range (hReferenceIdeal := hReferenceIdeal) (hPre_indices_and_offsets_in_range := hPre_indices_and_offsets_in_range)
    ∧ preserves_Kernel_KernelIdeal
    ∧ algebraic_KernelIdeal_ReferenceIdeal_pre_indices_and_offsets_in_range (hKernelIdeal := hKernelIdeal) (hReferenceIdeal := hReferenceIdeal) (hPre_indices_and_offsets_in_range := hPre_indices_and_offsets_in_range)
-- ==== Pre_indices_and_offsets_in_range.lean ====
abbrev S1024x20x157 : Shape := ⟨3, ![1024, 20, 157]⟩
abbrev S11x7x16 : Shape := ⟨3, ![11, 7, 16]⟩
abbrev S146x16 : Shape := ⟨2, ![146, 16]⟩
abbrev S1x16 : Shape := ⟨2, ![1, 16]⟩
abbrev S157x16 : Shape := ⟨2, ![157, 16]⟩
abbrev S1024x20x11 : Shape := ⟨3, ![1024, 20, 11]⟩
abbrev S_ : Shape := ⟨0, ![]⟩

class Facts : Prop where
  slices_S1024x20x157_S1024x20x11_0_0_0 : S1024x20x157.Slices ![0, 0, 0] S1024x20x11
  bcast_S_S1024x20x11 : S_.BroadcastsInDim S1024x20x11 (![] : Fin 0 → Fin S1024x20x11.rank)
  reducesTo_S1024x20x11_S_d0_1_2 : S1024x20x11.ReducesTo [0, 1, 2] S_
  h_S_ : 0 < S_.numel
  bcast_S_S146x16 : S_.BroadcastsInDim S146x16 (![] : Fin 0 → Fin S146x16.rank)
  reducesTo_S146x16_S_d0_1 : S146x16.ReducesTo [0, 1] S_
  bcast_S_S157x16 : S_.BroadcastsInDim S157x16 (![] : Fin 0 → Fin S157x16.rank)
  reducesTo_S157x16_S_d0_1 : S157x16.ReducesTo [0, 1] S_

variable [Facts]

def fn {F : FTy → Type} [FloatOps F] (main_arg0 : FVec F S1024x20x157 .f32) (main_arg1 : FVec F S11x7x16 .f32) (main_arg2 : FVec F S146x16 .f32) (main_arg3 : FVec F S146x16 .f32) (main_arg4 : FVec F S1x16 .f32) (main_arg5 : FVec F S157x16 .f32) : IVec S_ 1 :=
  let main_v0 : FVec F S1024x20x11 .f32 := (extractStridedSlice S1024x20x11 ![0, 0, 0] · slices_S1024x20x157_S1024x20x11_0_0_0) main_arg0
  let main_cst : FVec F S_ .f32 := constant S_ .f32 0xBF800000#32
  let main_v1 : FVec F S1024x20x11 .f32 := broadcastInDim S1024x20x11 ![] bcast_S_S1024x20x11 main_cst
  let main_v2 : IVec S1024x20x11 1 := cmpf .ogt main_v0 main_v1
  let main_cst_0 : FVec F S_ .f32 := constant S_ .f32 0x40E00000#32
  let main_v3 : FVec F S1024x20x11 .f32 := broadcastInDim S1024x20x11 ![] bcast_S_S1024x20x11 main_cst_0
  let main_v4 : IVec S1024x20x11 1 := cmpf .olt main_v0 main_v3
  let main_v5 : IVec S1024x20x11 1 := andi main_v2 main_v4
  let main_c : IVec S_ 1 := constantI S_ 1 1#1
  let main_v6 : IVec S_ 1 := (fun x v => Host.reduce IntOp.andi x v reducesTo_S1024x20x11_S_d0_1_2 h_S_) main_v5 main_c
  let main_cst_1 : FVec F S_ .f32 := constant S_ .f32 0x7F800000#32
  let main_v7 : FVec F S146x16 .f32 := broadcastInDim S146x16 ![] bcast_S_S146x16 main_cst_1
  let main_v8 : IVec S146x16 1 := cmpf .olt main_arg3 main_v7
  let main_c_2 : IVec S_ 1 := constantI S_ 1 1#1
  let main_v9 : IVec S_ 1 := (fun x v => Host.reduce IntOp.andi x v reducesTo_S146x16_S_d0_1 h_S_) main_v8 main_c_2
  let main_v10 : IVec S_ 1 := andi main_v6 main_v9
  let main_cst_3 : FVec F S_ .f32 := constant S_ .f32 0x7F800000#32
  let main_v11 : FVec F S157x16 .f32 := broadcastInDim S157x16 ![] bcast_S_S157x16 main_cst_3
  let main_v12 : IVec S157x16 1 := cmpf .olt main_arg5 main_v11
  let main_c_4 : IVec S_ 1 := constantI S_ 1 1#1
  let main_v13 : IVec S_ 1 := (fun x v => Host.reduce IntOp.andi x v reducesTo_S157x16_S_d0_1 h_S_) main_v12 main_c_4
  let main_v14 : IVec S_ 1 := andi main_v10 main_v13
  main_v14
-- ==== Kernel.lean ====
abbrev S1024x20x157 : Shape := ⟨3, ![1024, 20, 157]⟩
abbrev S11x7x16 : Shape := ⟨3, ![11, 7, 16]⟩
abbrev S146x16 : Shape := ⟨2, ![146, 16]⟩
abbrev S1x16 : Shape := ⟨2, ![1, 16]⟩
abbrev S157x16 : Shape := ⟨2, ![157, 16]⟩
abbrev S20480x157 : Shape := ⟨2, ![20480, 157]⟩
abbrev S2512 : Shape := ⟨1, ![2512]⟩
abbrev S_ : Shape := ⟨0, ![]⟩
abbrev S16 : Shape := ⟨1, ![16]⟩
abbrev S16x1 : Shape := ⟨2, ![16, 1]⟩
abbrev S1x2512 : Shape := ⟨2, ![1, 2512]⟩
abbrev S16x2512 : Shape := ⟨2, ![16, 2512]⟩
abbrev S157 : Shape := ⟨1, ![157]⟩
abbrev S157x1 : Shape := ⟨2, ![157, 1]⟩
abbrev S157x2512 : Shape := ⟨2, ![157, 2512]⟩
abbrev S77 : Shape := ⟨1, ![77]⟩
abbrev S77x1 : Shape := ⟨2, ![77, 1]⟩
abbrev S77x2512 : Shape := ⟨2, ![77, 2512]⟩
abbrev S11x2512 : Shape := ⟨2, ![11, 2512]⟩
abbrev S146x2512 : Shape := ⟨2, ![146, 2512]⟩
abbrev S7x11x16 : Shape := ⟨3, ![7, 11, 16]⟩
abbrev S77x16 : Shape := ⟨2, ![77, 16]⟩
abbrev S236x2512 : Shape := ⟨2, ![236, 2512]⟩
abbrev S20480x2512 : Shape := ⟨2, ![20480, 2512]⟩
abbrev S512x157 : Shape := ⟨2, ![512, 157]⟩
abbrev S512x2512 : Shape := ⟨2, ![512, 2512]⟩
abbrev S512x11 : Shape := ⟨2, ![512, 11]⟩
abbrev S512x2 : Shape := ⟨2, ![512, 2]⟩
abbrev S512x236 : Shape := ⟨2, ![512, 236]⟩

abbrev nBuf : Space → Nat
  | .hbm => 132
  | .vmem => 6
  | .smem => 0
  | _ => 0

abbrev hbmTy0_0 (i : Nat) : BufTy := match i % 128 with
  | 0 => ⟨S1024x20x157, .f32⟩
  | 1 => ⟨S11x7x16, .f32⟩
  | 2 => ⟨S146x16, .f32⟩
  | 3 => ⟨S146x16, .f32⟩
  | 4 => ⟨S1x16, .f32⟩
  | 5 => ⟨S157x16, .f32⟩
  | 6 => ⟨S20480x157, .f32⟩
  | 7 => ⟨S2512, .i32⟩
  | 8 => ⟨S_, .i32⟩
  | 9 => ⟨S_, .i32⟩
  | 10 => ⟨S2512, .i32⟩
  | 11 => ⟨S2512, .i32⟩
  | 12 => ⟨S2512, .i32⟩
  | 13 => ⟨S_, .i32⟩
  | 14 => ⟨S2512, .i32⟩
  | 15 => ⟨S2512, .i1⟩
  | 16 => ⟨S2512, .i32⟩
  | 17 => ⟨S2512, .i32⟩
  | 18 => ⟨S_, .i32⟩
  | 19 => ⟨S2512, .i32⟩
  | 20 => ⟨S2512, .i1⟩
  | 21 => ⟨S2512, .i1⟩
  | 22 => ⟨S_, .i32⟩
  | 23 => ⟨S2512, .i32⟩
  | 24 => ⟨S2512, .i32⟩
  | 25 => ⟨S2512, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2512, .i32⟩
  | 33 => ⟨S2512, .i32⟩
  | 34 => ⟨S_, .i32⟩
  | 35 => ⟨S2512, .i32⟩
  | 36 => ⟨S2512, .i1⟩
  | 37 => ⟨S_, .i32⟩
  | 38 => ⟨S2512, .i32⟩
  | 39 => ⟨S2512, .i1⟩
  | 40 => ⟨S_, .i32⟩
  | 41 => ⟨S_, .i1⟩
  | 42 => ⟨S2512, .i1⟩
  | 43 => ⟨S2512, .i1⟩
  | 44 => ⟨S2512, .i1⟩
  | 45 => ⟨S2512, .i32⟩
  | 46 => ⟨S2512, .i32⟩
  | 47 => ⟨S2512, .i32⟩
  | 48 => ⟨S16, .i32⟩
  | 49 => ⟨S16x1, .i32⟩
  | 50 => ⟨S1x2512, .i32⟩
  | 51 => ⟨S16x2512, .i32⟩
  | 52 => ⟨S16x2512, .i32⟩
  | 53 => ⟨S16x2512, .i1⟩
  | 54 => ⟨S16x2512, .f32⟩
  | 55 => ⟨S157, .i32⟩
  | 56 => ⟨S157x1, .i32⟩
  | 57 => ⟨S1x2512, .i32⟩
  | 58 => ⟨S157x2512, .i32⟩
  | 59 => ⟨S157x2512, .i32⟩
  | 60 => ⟨S157x2512, .i1⟩
  | 61 => ⟨S1x2512, .i32⟩
  | 62 => ⟨S77, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S77, .i32⟩
  | 70 => ⟨S77, .i32⟩
  | 71 => ⟨S_, .i32⟩
  | 72 => ⟨S77, .i32⟩
  | 73 => ⟨S77, .i1⟩
  | 74 => ⟨S_, .i32⟩
  | 75 => ⟨S77, .i32⟩
  | 76 => ⟨S77, .i1⟩
  | 77 => ⟨S_, .i32⟩
  | 78 => ⟨S_, .i1⟩
  | 79 => ⟨S77, .i1⟩
  | 80 => ⟨S77, .i1⟩
  | 81 => ⟨S77, .i1⟩
  | 82 => ⟨S77, .i32⟩
  | 83 => ⟨S77, .i32⟩
  | 84 => ⟨S77, .i32⟩
  | 85 => ⟨S77x1, .i32⟩
  | 86 => ⟨S77x2512, .i32⟩
  | 87 => ⟨S77x2512, .i32⟩
  | 88 => ⟨S77x2512, .i1⟩
  | 89 => ⟨S1x2512, .i32⟩
  | 90 => ⟨S_, .i32⟩
  | 91 => ⟨S1x2512, .i32⟩
  | 92 => ⟨S1x2512, .i1⟩
  | 93 => ⟨S77x2512, .i1⟩
  | 94 => ⟨S77x2512, .i1⟩
  | 95 => ⟨S_, .f32⟩
  | 96 => ⟨S11x2512, .f32⟩
  | 97 => ⟨S146x2512, .f32⟩
  | 98 => ⟨S157x2512, .f32⟩
  | 99 => ⟨S146x2512, .f32⟩
  | 100 => ⟨S157x2512, .f32⟩
  | 101 => ⟨S_, .f32⟩
  | 102 => ⟨S_, .f32⟩
  | 103 => ⟨S157x2512, .f32⟩
  | 104 => ⟨S157x2512, .f32⟩
  | 105 => ⟨S7x11x16, .f32⟩
  | 106 => ⟨S77x16, .f32⟩
  | 107 => ⟨S77x2512, .f32⟩
  | 108 => ⟨S_, .f32⟩
  | 109 => ⟨S_, .f32⟩
  | 110 => ⟨S77x2512, .f32⟩
  | 111 => ⟨S77x2512, .f32⟩
  | 112 => ⟨S2512, .f32⟩
  | 113 => ⟨S_, .f32⟩
  | 114 => ⟨S_, .f32⟩
  | 115 => ⟨S157x2512, .f32⟩
  | 116 => ⟨S157x2512, .f32⟩
  | 117 => ⟨S_, .f32⟩
  | 118 => ⟨S2512, .f32⟩
  | 119 => ⟨S2512, .f32⟩
  | 120 => ⟨S2512, .bf16⟩
  | 121 => ⟨S2512, .f32⟩
  | 122 => ⟨S2512, .f32⟩
  | 123 => ⟨S1x2512, .f32⟩
  | 124 => ⟨S1x2512, .f32⟩
  | 125 => ⟨S236x2512, .f32⟩
  | 126 => ⟨S236x2512, .bf16⟩
  | 127 => ⟨S1x2512, .f32⟩
  | _ => ⟨S1024x20x157, .f32⟩

abbrev hbmTy0_1 (i : Nat) : BufTy := match i % 128 with
  | 0 => ⟨S2512, .f32⟩
  | 1 => ⟨S2512, .f32⟩
  | 2 => ⟨S1x2512, .f32⟩
  | 3 => ⟨S20480x2512, .f32⟩
  | _ => ⟨S1024x20x157, .f32⟩

abbrev hbmTy (i : Nat) : BufTy := match i / 128 with
  | 0 => hbmTy0_0 i
  | 1 => hbmTy0_1 i
  | _ => ⟨S1024x20x157, .f32⟩

abbrev bufTy : (tb : Table) → Fin (tcTables nBuf tb) → BufTy
  | .hbm, ⟨i, _⟩ => hbmTy i
  | .local _ .vmem, ⟨0, _⟩ => ⟨S512x157, .f32⟩
  | .local _ .vmem, ⟨1, _⟩ => ⟨S512x157, .f32⟩
  | .local _ .vmem, ⟨2, _⟩ => ⟨S236x2512, .bf16⟩
  | .local _ .vmem, ⟨3, _⟩ => ⟨S1x2512, .f32⟩
  | .local _ .vmem, ⟨4, _⟩ => ⟨S512x2512, .f32⟩
  | .local _ .vmem, ⟨5, _⟩ => ⟨S512x2512, .f32⟩
  | _, _ => ⟨S1024x20x157, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_c_1 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_c_2 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_cst : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_cst_3 : Ref sig .tc := ⟨.hbm, 101, rfl⟩
abbrev main_call3_v0 : Ref sig .tc := ⟨.hbm, 102, rfl⟩
abbrev main_call3_v1 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_cst_4 : Ref sig .tc := ⟨.hbm, 108, rfl⟩
abbrev main_call4_v0 : Ref sig .tc := ⟨.hbm, 109, rfl⟩
abbrev main_call4_v1 : Ref sig .tc := ⟨.hbm, 110, rfl⟩
abbrev main_v38 : Ref sig .tc := ⟨.hbm, 111, rfl⟩
abbrev main_v39 : Ref sig .tc := ⟨.hbm, 112, rfl⟩
abbrev main_cst_5 : Ref sig .tc := ⟨.hbm, 113, rfl⟩
abbrev main_call5_v0 : Ref sig .tc := ⟨.hbm, 114, rfl⟩
abbrev main_call5_v1 : Ref sig .tc := ⟨.hbm, 115, rfl⟩
abbrev main_v40 : Ref sig .tc := ⟨.hbm, 116, rfl⟩
abbrev main_cst_6 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x157 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S236x2512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x20x157 : Shape := ⟨3, ![1024, 20, 157]⟩
abbrev S11x7x16 : Shape := ⟨3, ![11, 7, 16]⟩
abbrev S146x16 : Shape := ⟨2, ![146, 16]⟩
abbrev S1x16 : Shape := ⟨2, ![1, 16]⟩
abbrev S157x16 : Shape := ⟨2, ![157, 16]⟩
abbrev S20480x157 : Shape := ⟨2, ![20480, 157]⟩
abbrev S_ : Shape := ⟨0, ![]⟩
abbrev S20480x11 : Shape := ⟨2, ![20480, 11]⟩
abbrev S11x20480 : Shape := ⟨2, ![11, 20480]⟩
abbrev S11x20480x1 : Shape := ⟨3, ![11, 20480, 1]⟩
abbrev S1 : Shape := ⟨1, ![1]⟩
abbrev S1x1x1 : Shape := ⟨3, ![1, 1, 1]⟩
abbrev S11x20480x16 : Shape := ⟨3, ![11, 20480, 16]⟩
abbrev S20480x11x16 : Shape := ⟨3, ![20480, 11, 16]⟩
abbrev S20480x146 : Shape := ⟨2, ![20480, 146]⟩
abbrev S20480x146x1 : Shape := ⟨3, ![20480, 146, 1]⟩
abbrev S1x146x16 : Shape := ⟨3, ![1, 146, 16]⟩
abbrev S20480x146x16 : Shape := ⟨3, ![20480, 146, 16]⟩
abbrev S20480x157x16 : Shape := ⟨3, ![20480, 157, 16]⟩
abbrev S20480x157x1 : Shape := ⟨3, ![20480, 157, 1]⟩
abbrev S16 : Shape := ⟨1, ![16]⟩
abbrev S1x1x16 : Shape := ⟨3, ![1, 1, 16]⟩
abbrev S20480x16x157 : Shape := ⟨3, ![20480, 16, 157]⟩
abbrev S20480x2512 : Shape := ⟨2, ![20480, 2512]⟩
abbrev S157 : Shape := ⟨1, ![157]⟩
abbrev S157x1 : Shape := ⟨2, ![157, 1]⟩
abbrev S1x1 : Shape := ⟨2, ![1, 1]⟩
abbrev S1x157x16 : Shape := ⟨3, ![1, 157, 16]⟩

abbrev nBuf : Space → Nat
  | .hbm => 94
  | .vmem => 0
  | .smem => 0
  | _ => 0

abbrev bufTy : (tb : Table) → Fin (tcTables nBuf tb) → BufTy
  | .hbm, ⟨0, _⟩ => ⟨S1024x20x157, .f32⟩
  | .hbm, ⟨1, _⟩ => ⟨S11x7x16, .f32⟩
  | .hbm, ⟨2, _⟩ => ⟨S146x16, .f32⟩
  | .hbm, ⟨3, _⟩ => ⟨S146x16, .f32⟩
  | .hbm, ⟨4, _⟩ => ⟨S1x16, .f32⟩
  | .hbm, ⟨5, _⟩ => ⟨S157x16, .f32⟩
  | .hbm, ⟨6, _⟩ => ⟨S20480x157, .f32⟩
  | .hbm, ⟨7, _⟩ => ⟨S20480x157, .i1⟩
  | .hbm, ⟨8, _⟩ => ⟨S_, .f32⟩
  | .hbm, ⟨9, _⟩ => ⟨S_, .f32⟩
  | .hbm, ⟨10, _⟩ => ⟨S20480x157, .f32⟩
  | .hbm, ⟨11, _⟩ => ⟨S20480x157, .f32⟩
  | .hbm, ⟨12, _⟩ => ⟨S20480x11, .f32⟩
  | .hbm, ⟨13, _⟩ => ⟨S20480x11, .i32⟩
  | .hbm, ⟨14, _⟩ => ⟨S_, .i32⟩
  | .hbm, ⟨15, _⟩ => ⟨S20480x11, .i32⟩
  | .hbm, ⟨16, _⟩ => ⟨S20480x11, .i1⟩
  | .hbm, ⟨17, _⟩ => ⟨S_, .i32⟩
  | .hbm, ⟨18, _⟩ => ⟨S20480x11, .i32⟩
  | .hbm, ⟨19, _⟩ => ⟨S20480x11, .i32⟩
  | .hbm, ⟨20, _⟩ => ⟨S20480x11, .i32⟩
  | .hbm, ⟨21, _⟩ => ⟨S11x20480, .i32⟩
  | .hbm, ⟨22, _⟩ => ⟨S11x20480x1, .i32⟩
  | .hbm, ⟨23, _⟩ => ⟨S1, .i32⟩
  | .hbm, ⟨24, _⟩ => ⟨S_, .i32⟩
  | .hbm, ⟨25, _⟩ => ⟨S11x20480x1, .i32⟩
  | .hbm, ⟨26, _⟩ => ⟨S11x20480x1, .i1⟩
  | .hbm, ⟨27, _⟩ => ⟨S1x1x1, .i32⟩
  | .hbm, ⟨28, _⟩ => ⟨S11x20480x1, .i32⟩
  | .hbm, ⟨29, _⟩ => ⟨S11x20480x1, .i1⟩
  | .hbm, ⟨30, _⟩ => ⟨S11x20480x1, .i1⟩
  | .hbm, ⟨31, _⟩ => ⟨S_, .i1⟩
  | .hbm, ⟨32, _⟩ => ⟨S11x20480, .i1⟩
  | .hbm, ⟨33, _⟩ => ⟨S11x20480x16, .f32⟩
  | .hbm, ⟨34, _⟩ => ⟨S11x20480x16, .i1⟩
  | .hbm, ⟨35, _⟩ => ⟨S_, .f32⟩
  | .hbm, ⟨36, _⟩ => ⟨S11x20480x16, .f32⟩
  | .hbm, ⟨37, _⟩ => ⟨S11x20480x16, .f32⟩
  | .hbm, ⟨38, _⟩ => ⟨S20480x11x16, .f32⟩
  | .hbm, ⟨39, _⟩ => ⟨S20480x146, .f32⟩
  | .hbm, ⟨40, _⟩ => ⟨S20480x146x1, .f32⟩
  | .hbm, ⟨41, _⟩ => ⟨S1x146x16, .f32⟩
  | .hbm, ⟨42, _⟩ => ⟨S20480x146x16, .f32⟩
  | .hbm, ⟨43, _⟩ => ⟨S20480x146x16, .f32⟩
  | .hbm, ⟨44, _⟩ => ⟨S20480x146x16, .f32⟩
  | .hbm, ⟨45, _⟩ => ⟨S1x146x16, .f32⟩
  | .hbm, ⟨46, _⟩ => ⟨S20480x146x16, .f32⟩
  | .hbm, ⟨47, _⟩ => ⟨S20480x146x16, .f32⟩
  | .hbm, ⟨48, _⟩ => ⟨S20480x157x16, .f32⟩
  | .hbm, ⟨49, _⟩ => ⟨S20480x157x1, .i1⟩
  | .hbm, ⟨50, _⟩ => ⟨S16, .f32⟩
  | .hbm, ⟨51, _⟩ => ⟨S1x1x16, .f32⟩
  | .hbm, ⟨52, _⟩ => ⟨S20480x157x16, .i1⟩
  | .hbm, ⟨53, _⟩ => ⟨S20480x157x16, .f32⟩
  | .hbm, ⟨54, _⟩ => ⟨S20480x157x16, .f32⟩
  | .hbm, ⟨55, _⟩ => ⟨S20480x16x157, .f32⟩
  | .hbm, ⟨56, _⟩ => ⟨S20480x2512, .f32⟩
  | .hbm, ⟨57, _⟩ => ⟨S157, .i32⟩
  | .hbm, ⟨58, _⟩ => ⟨S_, .i32⟩
  | .hbm, ⟨59, _⟩ => ⟨S157, .i32⟩
  | .hbm, ⟨60, _⟩ => ⟨S157, .i1⟩
  | .hbm, ⟨61, _⟩ => ⟨S_, .i32⟩
  | .hbm, ⟨62, _⟩ => ⟨S157, .i32⟩
  | .hbm, ⟨63, _⟩ => ⟨S157, .i32⟩
  | .hbm, ⟨64, _⟩ => ⟨S157, .i32⟩
  | .hbm, ⟨65, _⟩ => ⟨S157x1, .i32⟩
  | .hbm, ⟨66, _⟩ => ⟨S1, .i32⟩
  | .hbm, ⟨67, _⟩ => ⟨S_, .i32⟩
  | .hbm, ⟨68, _⟩ => ⟨S157x1, .i32⟩
  | .hbm, ⟨69, _⟩ => ⟨S157x1, .i1⟩
  | .hbm, ⟨70, _⟩ => ⟨S1x1, .i32⟩
  | .hbm, ⟨71, _⟩ => ⟨S157x1, .i32⟩
  | .hbm, ⟨72, _⟩ => ⟨S157x1, .i1⟩
  | .hbm, ⟨73, _⟩ => ⟨S157x1, .i1⟩
  | .hbm, ⟨74, _⟩ => ⟨S_, .i1⟩
  | .hbm, ⟨75, _⟩ => ⟨S157, .i1⟩
  | .hbm, ⟨76, _⟩ => ⟨S157x16, .f32⟩
  | .hbm, ⟨77, _⟩ => ⟨S157x16, .i1⟩
  | .hbm, ⟨78, _⟩ => ⟨S_, .f32⟩
  | .hbm, ⟨79, _⟩ => ⟨S157x16, .f32⟩
  | .hbm, ⟨80, _⟩ => ⟨S157x16, .f32⟩
  | .hbm, ⟨81, _⟩ => ⟨S1x157x16, .f32⟩
  | .hbm, ⟨82, _⟩ => ⟨S20480x157x16, .f32⟩
  | .hbm, ⟨83, _⟩ => ⟨S20480x2512, .f32⟩
  | .hbm, ⟨84, _⟩ => ⟨S20480x2512, .f32⟩
  | .hbm, ⟨85, _⟩ => ⟨S_, .f32⟩
  | .hbm, ⟨86, _⟩ => ⟨S20480x2512, .f32⟩
  | .hbm, ⟨87, _⟩ => ⟨S20480x2512, .f32⟩
  | .hbm, ⟨88, _⟩ => ⟨S20480x2512, .f32⟩
  | .hbm, ⟨89, _⟩ => ⟨S_, .f32⟩
  | .hbm, ⟨90, _⟩ => ⟨S20480x2512, .f32⟩
  | .hbm, ⟨91, _⟩ => ⟨S20480x2512, .f32⟩
  | .hbm, ⟨92, _⟩ => ⟨S20480x2512, .f32⟩
  | .hbm, ⟨93, _⟩ => ⟨S20480x2512, .f32⟩
  | _, _ => ⟨S1024x20x157, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_c_1 : Ref sig .tc := ⟨.hbm, 23, rfl⟩
abbrev main_call1_c_2 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_v12 : Ref sig .tc := ⟨.hbm, 30, rfl⟩
abbrev main_call1_c_3 : Ref sig .tc := ⟨.hbm, 31, rfl⟩
abbrev main_call1_v13 : Ref sig .tc := ⟨.hbm, 32, rfl⟩
abbrev main_call1_v14 : Ref sig .tc := ⟨.hbm, 33, rfl⟩
abbrev main_call1_v15 : Ref sig .tc := ⟨.hbm, 34, rfl⟩
abbrev main_call1_cst : Ref sig .tc := ⟨.hbm, 35, rfl⟩
abbrev main_call1_v16 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call2_v0 : Ref sig .tc := ⟨.hbm, 52, rfl⟩
abbrev main_call2_v1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_0 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_1 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩

abbrev nD : Nat := 1
abbrev τ : Topo := Topo.v7x

variable {F : FTy → Type} [FloatOps F]
-- ==== Proof.Frames.lean ====
/- The frames: every run of each program ends, leaves its arguments as they were, and leaves every semaphore counter at
   zero. The kernel's come from its generated launch; the reference is a line of host operations over a signature that
   has no semaphores at all. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_indices_and_offsets_in_range
public import Idealize.ShloMosaic.Lib.Quiescent

@[expose] public section

noncomputable section

namespace Cert.Proof

open Idealize.ShloMosaic Idealize.SL.Sem

/-- The kernel over machine floats ends with its arguments unchanged and every counter at zero. -/
theorem quiescent_kernel : Cert.quiescent_Kernel (hKernel := Cert.Kernel.Gen.facts) :=
  fun m g _ => Cert.Kernel.Gen.frame m g

/-- The kernel over the extended reals ends with its arguments unchanged and every counter at zero. -/
theorem quiescent_kernelIdeal : Cert.quiescent_KernelIdeal (hKernelIdeal := Cert.KernelIdeal.Gen.facts) :=
  fun m g _ => Cert.KernelIdeal.Gen.frame m g

/-- The reference over the extended reals ends with its arguments unchanged and every counter at zero. -/
theorem quiescent_referenceIdeal :
    Cert.quiescent_ReferenceIdeal (hReferenceIdeal := Cert.ReferenceIdeal.Gen.facts) :=
  fun m g _ => (θ_run _ _ _).mono
    (fun r h => ⟨fun c => (h c).2, sem_eq_zero_of_no_sems (by decide) r.2⟩) (Cert.ReferenceIdeal.Value.run m g)

/-- So does the kernel where the precondition holds. -/
theorem quiescent_kernelIdeal_pre : Cert.quiescent_KernelIdeal_pre_indices_and_offsets_in_range
    (hKernelIdeal := Cert.KernelIdeal.Gen.facts)
    (hPre_indices_and_offsets_in_range := Cert.Pre_indices_and_offsets_in_range.Gen.facts) :=
  fun m g _ => Cert.KernelIdeal.Gen.frame m g

/-- So does the reference where the precondition holds. -/
theorem quiescent_referenceIdeal_pre : Cert.quiescent_ReferenceIdeal_pre_indices_and_offsets_in_range
    (hReferenceIdeal := Cert.ReferenceIdeal.Gen.facts)
    (hPre_indices_and_offsets_in_range := Cert.Pre_indices_and_offsets_in_range.Gen.facts) :=
  fun m g _ => quiescent_referenceIdeal m g trivial

end Cert.Proof

end
-- ==== Proof.K.HostDefs.lean ====
/- What the kernel's host operations compute before the launch, as named functions of the arguments: the two integer
   masks' ingredients (quotient and remainder of a column by 157, remainder of a table row by 11), the masks, and the
   matrix every block is multiplied by. -/
module

public import proofs.«01_k».proof.Proof.Gen.KernelIdeal.Frame
public import Idealize.ShloMosaic.Lib.StableHlo.RunRead
public import Idealize.ShloMosaic.Lib.Pointwise

@[expose] public section

set_option maxRecDepth 16384

noncomputable section

namespace Cert.KernelIdeal.Host

open Idealize.ShloMosaic Idealize.ShloMosaic.TcCoe Idealize.SL.Sem
open Cert.KernelIdeal Cert.KernelIdeal.Gen

/-- An integer scalar spread over the columns. -/
abbrev cols {w : ℕ} (x : IVec S_ w) : IVec S2512 w := broadcastInDim S2512 ![] bcast_S_S2512 x

/-- An integer scalar spread over the rows of the stacked tables. -/
abbrev rows77 {w : ℕ} (x : IVec S_ w) : IVec S77 w := broadcastInDim S77 ![] bcast_S_S77 x

/-- Column numbers divided by 157, rounded down. -/
def quo : IVec S2512 32 :=
  select
    (andi
      (cmpi .ne (signi (iotaInDim S2512 32 0)) (cols (signi (constantI S_ 32 157#32))))
      (cmpi .ne (Host.remsi (iotaInDim S2512 32 0) (cols (constantI S_ 32 157#32))) (cols (constantI S_ 32 0#32))))
    (subi (Host.divsi (iotaInDim S2512 32 0) (cols (constantI S_ 32 157#32))) (cols (constantI S_ 32 1#32)))
    (Host.divsi (iotaInDim S2512 32 0) (cols (constantI S_ 32 157#32)))

/-- The divisor of a remainder, one in place of zero. -/
def divisor (n : BitVec 32) : IVec S_ 32 :=
  select (cmpi .eq (constantI S_ 32 n) (constantI S_ 32 0#32)) (constantI S_ 32 1#32) (constantI S_ 32 n)

/-- Column numbers modulo 157. -/
def rem157 : IVec S2512 32 :=
  select
    (andi
      (cmpi .ne
        (cmpi .slt (Host.remsi (iotaInDim S2512 32 0) (cols (divisor 157#32))) (cols (constantI S_ 32 0#32)))
        (cols (cmpi .slt (divisor 157#32) (constantI S_ 32 0#32))))
      (cmpi .ne (Host.remsi (iotaInDim S2512 32 0) (cols (divisor 157#32))) (cols (constantI S_ 32 0#32))))
    (addi (Host.remsi (iotaInDim S2512 32 0) (cols (divisor 157#32))) (cols (divisor 157#32)))
    (Host.remsi (iotaInDim S2512 32 0) (cols (divisor 157#32)))

/-- Row numbers of the stacked tables modulo 11. -/
def rem11 : IVec S77 32 :=
  select
    (andi
      (cmpi .ne
        (cmpi .slt (Host.remsi (iotaInDim S77 32 0) (rows77 (divisor 11#32))) (rows77 (constantI S_ 32 0#32)))
        (rows77 (cmpi .slt (divisor 11#32) (constantI S_ 32 0#32))))
      (cmpi .ne (Host.remsi (iotaInDim S77 32 0) (rows77 (divisor 11#32))) (rows77 (constantI S_ 32 0#32))))
    (addi (Host.remsi (iotaInDim S77 32 0) (rows77 (divisor 11#32))) (rows77 (divisor 11#32)))
    (Host.remsi (iotaInDim S77 32 0) (rows77 (divisor 11#32)))

/-- Row `h` holds one in the columns of output channel `h`, zero elsewhere. -/
def oneHot : FVec Ideal S16x2512 .f32 :=
  uitofp .f32 (cmpi .eq
    (broadcastInDim S16x2512 ![0, 1] bcast_S16x1_S16x2512_0_1 (broadcastInDim S16x1 ![0] bcast_S16_S16x1_0 (iotaInDim S16 32 0)))
    (broadcastInDim S16x2512 ![0, 1] bcast_S1x2512_S16x2512_0_1 (broadcastInDim S1x2512 ![1] bcast_S2512_S1x2512_1 quo)))

/-- Feature row against column: whether the column belongs to that feature. -/
def eqW : IVec S157x2512 1 :=
  cmpi .eq
    (broadcastInDim S157x2512 ![0, 1] bcast_S157x1_S157x2512_0_1 (broadcastInDim S157x1 ![0] bcast_S157_S157x1_0 (iotaInDim S157 32 0)))
    (broadcastInDim S157x2512 ![0, 1] bcast_S1x2512_S157x2512_0_1 (broadcastInDim S1x2512 ![1] bcast_S2512_S1x2512_1 rem157))

/-- Stacked table row against column: whether the column belongs to that row's categorical feature. -/
def eqC : IVec S77x2512 1 :=
  andi
    (cmpi .eq
      (broadcastInDim S77x2512 ![0, 1] bcast_S1x2512_S77x2512_0_1 (broadcastInDim S1x2512 ![1] bcast_S2512_S1x2512_1 rem157))
      (broadcastInDim S77x2512 ![0, 1] bcast_S77x1_S77x2512_0_1 (broadcastInDim S77x1 ![0] bcast_S77_S77x1_0 rem11)))
    (broadcastInDim S77x2512 ![0, 1] bcast_S1x2512_S77x2512_0_1
      (cmpi .slt (broadcastInDim S1x2512 ![1] bcast_S2512_S1x2512_1 rem157)
        (broadcastInDim S1x2512 ![] bcast_S_S1x2512 (constantI S_ 32 11#32))))

/-- A parameter of the continuous features, its channel copied to that channel's columns, under eleven zero rows. -/
def padded (w : FVec Ideal S146x16 .f32) : FVec Ideal S157x2512 .f32 :=
  concatenate S157x2512 0
    [⟨S11x2512, broadcastInDim S11x2512 ![] bcast_S_S11x2512 (constant (F := Ideal) S_ .f32 0x00000000#32)⟩,
     ⟨S146x2512, Host.dotGeneral (F := Ideal) dot_S146x16_S16x2512_S146x2512_1_0_0_1_n_n none w oneHot⟩]
    concatenates_S11x2512_S146x2512_S157x2512_d0

/-- The same with every entry outside its feature's columns cleared. -/
def masked (w : FVec Ideal S146x16 .f32) : FVec Ideal S157x2512 .f32 :=
  select eqW (padded w) (broadcastInDim S157x2512 ![] bcast_S_S157x2512 (constant (F := Ideal) S_ .f32 0x00000000#32))

/-- The stacked tables spread over the columns of their features. -/
def tables (t : FVec Ideal S11x7x16 .f32) : FVec Ideal S77x2512 .f32 :=
  select eqC
    (Host.dotGeneral (F := Ideal) dot_S77x16_S16x2512_S77x2512_1_0_0_1_n_n none
      (shapeCast S77x16 (transpose S7x11x16 [1, 0, 2] t transposes_S11x7x16_S7x11x16_1_0_2) shapeCasts_S7x11x16_S77x16) oneHot)
    (broadcastInDim S77x2512 ![] bcast_S_S77x2512 (constant (F := Ideal) S_ .f32 0x00000000#32))

/-- The column offsets: the positional table flattened, plus the biases of the continuous features. -/
def offsets (b : FVec Ideal S146x16 .f32) (p : FVec Ideal S157x16 .f32) : FVec Ideal S2512 .f32 :=
  addf (shapeCast S2512 p shapeCasts_S157x16_S2512)
    (Host.reduceAdd (F := Ideal) (masked b) (constant (F := Ideal) S_ .f32 0x00000000#32) reducesTo_S157x2512_S2512_d0 h_S_)

/-- The offsets' leading part. -/
def leading (b : FVec Ideal S146x16 .f32) (p : FVec Ideal S157x16 .f32) : FVec Ideal S2512 .f32 :=
  extf .f32 (truncf .bf16 (offsets b p) bitsLt_bf16_f32) bitsLt_bf16_f32

/-- The matrix every block is multiplied by: weights, tables, the offsets' leading part and what it leaves. -/
def mat (t : FVec Ideal S11x7x16 .f32) (w b : FVec Ideal S146x16 .f32) (p : FVec Ideal S157x16 .f32) :
    FVec Ideal S236x2512 .bf16 :=
  truncf .bf16
    (concatenate S236x2512 0
      [⟨S157x2512, masked w⟩, ⟨S77x2512, tables t⟩,
       ⟨S1x2512, broadcastInDim S1x2512 ![1] bcast_S2512_S1x2512_1 (leading b p)⟩,
       ⟨S1x2512, broadcastInDim S1x2512 ![1] bcast_S2512_S1x2512_1 (subf (offsets b p) (leading b p))⟩]
      concatenates_S157x2512_S77x2512_S1x2512_S1x2512_S236x2512_d0)
    bitsLt_bf16_f32

variable (m : (ℓ : Loc nD τ sig) → Buf (Elt Ideal) ℓ)

set_option maxHeartbeats 4000000 in
/-- The launch finds `mat` of the arguments in the matrix buffer. -/
theorem V_mat (c : Dev nD) : V m c main_v49
    = mat (m ((c : Thread nD τ).loc main_arg1)) (m ((c : Thread nD τ).loc main_arg2))
        (m ((c : Thread nD τ).loc main_arg3)) (m ((c : Thread nD τ).loc main_arg5)) := by
  show StableHlo.after _ _ _ = _
  after_reads_simp
  rfl

/-- The launch finds the first argument, its first two axes joined, in the block buffer. -/
theorem V_x (c : Dev nD) : V m c main_v0
    = shapeCast S20480x157 (m ((c : Thread nD τ).loc main_arg0)) shapeCasts_S1024x20x157_S20480x157 := by
  show StableHlo.after _ _ _ = _
  after_reads_simp
  rfl

end Cert.KernelIdeal.Host

end
-- ==== Proof.K.HostValues.lean ====
/- The host arrays read at an index: column `k` belongs to channel `k / 157` and feature `k % 157`. -/
module

public import proofs.«01_k».proof.Proof.K.HostDefs

@[expose] public section

set_option maxRecDepth 16384

noncomputable section

namespace Cert.KernelIdeal.Host

open Idealize.ShloMosaic Idealize.ShloMosaic.TcCoe Idealize.SL.Sem
open Cert.KernelIdeal Cert.KernelIdeal.Gen

/-- The quotient of a column by 157. -/
theorem quo_apply (k : Fin 2512) : quo (ix1 k) = BitVec.ofNat 32 (k.val / 157) := by
  pointwise [quo]
  revert k
  decide +kernel

/-- The remainder of a column by 157. -/
theorem rem157_apply (k : Fin 2512) : rem157 (ix1 k) = BitVec.ofNat 32 (k.val % 157) := by
  pointwise [rem157, divisor]
  revert k
  decide +kernel

/-- The remainder of a stacked table row by 11. -/
theorem rem11_apply (q : Fin 77) : rem11 (ix1 q) = BitVec.ofNat 32 (q.val % 11) := by
  pointwise [rem11, divisor]
  revert q
  decide +kernel

/-- Two small naturals compared for equality as 32-bit words. -/
theorem cmpi_eq_ofNat {a b : ℕ} (ha : a < 4096) (hb : b < 4096) :
    IntOp.cmpi .eq (BitVec.ofNat 32 a) (BitVec.ofNat 32 b) = BitVec.ofBool (decide (a = b)) := by
  have h : (BitVec.ofNat 32 a = BitVec.ofNat 32 b) ↔ a = b := by
    rw [← BitVec.toNat_inj, BitVec.toNat_ofNat, BitVec.toNat_ofNat]
    omega
  simp only [IntOp.cmpi]
  congr 1
  by_cases hab : a = b
  · simp [hab]
  · simp [hab, mt h.1 hab]

/-- A bit as a float is one or zero. -/
theorem uitofp_ofBool (p : Prop) [Decidable p] :
    (FloatOps.uitofp FTy.f32 (BitVec.ofBool (decide p)) : Ideal .f32) = if p then (1 : EReal) else 0 := by
  show (((BitVec.ofBool (decide p)).toNat : ℝ) : EReal) = _
  by_cases hp : p <;> simp [hp]

/-- The one-hot matrix: one where the column belongs to the channel. -/
theorem oneHot_apply (h : Fin 16) (k : Fin 2512) :
    oneHot (ix2 h k) = if h.val = k.val / 157 then (1 : EReal) else 0 := by
  pointwise [oneHot, quo_apply]
  rw [cmpi_eq_ofNat (by omega) (by omega)]
  exact uitofp_ofBool _

/-- The feature mask. -/
theorem eqW_apply (r : Fin 157) (k : Fin 2512) :
    eqW (ix2 r k) = BitVec.ofBool (decide (r.val = k.val % 157)) := by
  pointwise [eqW, rem157_apply]
  exact cmpi_eq_ofNat (by omega) (by omega)

/-- The table mask. -/
theorem eqC_apply (q : Fin 77) (k : Fin 2512) :
    eqC (ix2 q k) = BitVec.ofBool (decide (q.val % 11 = k.val % 157)) := by
  pointwise [eqC, rem157_apply, rem11_apply]
  rw [cmpi_eq_ofNat (by omega) (by omega)]
  by_cases h : k.val % 157 = q.val % 11
  · have hq : q.val % 11 < 11 := Nat.mod_lt _ (by omega)
    rw [h]
    generalize q.val % 11 = z at hq
    revert z
    decide
  · have h' : ¬ q.val % 11 = k.val % 157 := fun e => h e.symm
    simp only [h, h', decide_false]
    generalize IntOp.cmpi _ _ _ = b
    revert b
    decide

/-- A sum against a one-hot column keeps the term of the column's channel. -/
theorem sum_oneHot (f : Fin 16 → EReal) (k : Fin 2512) :
    (∑ x : Fin 16, f x * if x.val = k.val / 157 then (1 : EReal) else 0)
      = f ⟨k.val / 157, by omega⟩ := by
  rw [Finset.sum_eq_single (⟨k.val / 157, by omega⟩ : Fin 16)]
  · simp
  · intro b _ hb
    have : ¬ b.val = k.val / 157 := fun e => hb (Fin.ext e)
    simp [this]
  · intro h
    exact absurd (Finset.mem_univ _) h

/-- A continuous feature's parameter, its row padded and its channel picked by the column. -/
theorem padded_apply (w : FVec Ideal S146x16 .f32) (r : Fin 157) (k : Fin 2512) :
    padded w (ix2 r k) = if h : r.val < 11 then (0 : EReal)
      else w (ix2 ⟨r.val - 11, by omega⟩ ⟨k.val / 157, by omega⟩) := by
  pointwise [padded, oneHot_apply]
  by_cases h : r.val < 11
  · simp only [h, dif_pos]
  · simp only [h, dif_neg, not_false_eq_true]
    exact sum_oneHot (fun x => w (ix2 ⟨r.val - 11, by omega⟩ x)) k

/-- The same, cleared outside the feature's columns. -/
theorem masked_apply (w : FVec Ideal S146x16 .f32) (r : Fin 157) (k : Fin 2512) :
    masked w (ix2 r k) = if r.val = k.val % 157 then
      (if h : r.val < 11 then (0 : EReal) else w (ix2 ⟨r.val - 11, by omega⟩ ⟨k.val / 157, by omega⟩)) else 0 := by
  pointwise [masked, eqW_apply, padded_apply]

/-- A stacked table row: row `11 v + i` holds the entry of feature `i` at value `v`. -/
theorem tables_apply (t : FVec Ideal S11x7x16 .f32) (q : Fin 77) (k : Fin 2512) :
    tables t (ix2 q k) = if q.val % 11 = k.val % 157 then
      (t (ix3 ⟨q.val % 11, by omega⟩ ⟨q.val / 11, by omega⟩ ⟨k.val / 157, by omega⟩) : EReal) else 0 := by
  pointwise [tables, eqC_apply, oneHot_apply]
  congr 1
  exact sum_oneHot (fun x => t (ix3 ⟨q.val % 11, by omega⟩ ⟨q.val / 11, by omega⟩ x)) k

/-- The offset of a column: its entry of the position table, and its feature's bias if the
feature is a continuous one. -/
theorem offsets_apply (b : FVec Ideal S146x16 .f32) (p : FVec Ideal S157x16 .f32) (k : Fin 2512) :
    offsets b p (ix1 k) = (p (ix2 ⟨k.val / 16, by omega⟩ ⟨k.val % 16, by omega⟩) : EReal)
      + if h : k.val % 157 < 11 then (0 : EReal)
        else b (ix2 ⟨k.val % 157 - 11, by omega⟩ ⟨k.val / 157, by omega⟩) := by
  pointwise [offsets, masked_apply]
  congr 1
  simp only [ite_self, Finset.sum_const_zero, zero_add]
  by_cases h : k.val % 157 < 11
  · rw [dif_pos h]
    refine Finset.sum_eq_zero fun x _ => if_neg ?_
    omega
  · rw [dif_neg h, Finset.sum_eq_single (⟨k.val % 157 - 11, by omega⟩ : Fin 146)]
    · exact if_pos (by show 11 + (k.val % 157 - 11) = _; omega)
    · intro x _ hx
      refine if_neg fun e => hx (Fin.ext ?_)
      show x.val = k.val % 157 - 11
      omega
    · intro hx
      exact absurd (Finset.mem_univ _) hx

/-- The rows of the product's right operand: the parameters, the tables, the offset, and what
the offset's rounding left. -/
theorem mat_apply (t : FVec Ideal S11x7x16 .f32) (w b : FVec Ideal S146x16 .f32) (p : FVec Ideal S157x16 .f32)
    (r : Fin 236) (k : Fin 2512) :
    mat t w b p (ix2 r k) = if h : r.val < 157 then (masked w (ix2 ⟨r.val, h⟩ k) : EReal)
      else if h' : r.val - 157 < 77 then tables t (ix2 ⟨r.val - 157, h'⟩ k)
      else if r.val - 157 - 77 < 1 then offsets b p (ix1 k)
      else offsets b p (ix1 k) - offsets b p (ix1 k) := by
  pointwise [mat, leading]
  simp only [dite_eq_ite]

end Cert.KernelIdeal.Host

end
-- ==== Proof.K.Block.lean ====
/- What the kernel's body stores at one place of its block. -/
module

public import proofs.«01_k».proof.Proof.Gen.KernelIdeal.Frame
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen

/-- What the body stores, from its three blocks. -/
def stored (x0 : FVec Ideal S512x157 .f32) (x1 : FVec Ideal S236x2512 .bf16) (x2 : FVec Ideal S1x2512 .f32) :
    FVec Ideal S512x2512 .f32 :=
  k0_pay1 (F := Ideal) (k0_pay3 (F := Ideal) x0) (k0_pay4 (F := Ideal) x0) (k0_pay5 (F := Ideal) x0) (k0_pay6 (F := Ideal) x0) (k0_pay7 (F := Ideal) x0) (k0_pay8 (F := Ideal) x0) (k0_pay9 (F := Ideal) x0) (k0_pay10 (F := Ideal) x0) (k0_pay11 (F := Ideal) x0) 6#32 x1 x2

/-- The one-hot of the last table value, which the body computes after the others. -/
def hot6 (x0 : FVec Ideal S512x157 .f32) : FVec Ideal S512x11 .f32 :=
  select (cmpi .eq (k0_pay5 (F := Ideal) x0) (broadcast S512x11 6#32))
    (broadcast S512x11 (Scalar.ofBits .f32 0x3F800000#32)) (broadcast S512x11 (Scalar.ofBits .f32 0x00000000#32))

/-- The product's left operand: the features, the seven one-hots, and two columns of ones. -/
def left (x0 : FVec Ideal S512x157 .f32) : FVec Ideal S512x236 .f32 :=
  concatenate S512x236 1 [⟨S512x157, k0_pay4 (F := Ideal) x0⟩, ⟨S512x11, k0_pay6 (F := Ideal) x0⟩, ⟨S512x11, k0_pay7 (F := Ideal) x0⟩, ⟨S512x11, k0_pay8 (F := Ideal) x0⟩, ⟨S512x11, k0_pay9 (F := Ideal) x0⟩, ⟨S512x11, k0_pay10 (F := Ideal) x0⟩, ⟨S512x11, k0_pay11 (F := Ideal) x0⟩,
    ⟨S512x11, hot6 x0⟩, ⟨S512x2, broadcast S512x2 (Scalar.ofBits .f32 0x3F800000#32)⟩]
    concatenates_S512x157_S512x11_S512x11_S512x11_S512x11_S512x11_S512x11_S512x11_S512x2_S512x236_d1

/-- The mark of a missing feature, repeated for each channel. -/
def marks (v : FVec Ideal S512x157 .f32) : FVec Ideal S512x2512 .f32 :=
  concatenate S512x2512 1 [⟨S512x157, v⟩, ⟨S512x157, v⟩, ⟨S512x157, v⟩, ⟨S512x157, v⟩, ⟨S512x157, v⟩, ⟨S512x157, v⟩, ⟨S512x157, v⟩, ⟨S512x157, v⟩, ⟨S512x157, v⟩, ⟨S512x157, v⟩, ⟨S512x157, v⟩, ⟨S512x157, v⟩, ⟨S512x157, v⟩, ⟨S512x157, v⟩, ⟨S512x157, v⟩, ⟨S512x157, v⟩]
    concatenates_S512x157_S512x157_S512x157_S512x157_S512x157_S512x157_S512x157_S512x157_S512x157_S512x157_S512x157_S512x157_S512x157_S512x157_S512x157_S512x157_S512x2512_d1

/-- The features' marks, no feature being missing. -/
def none (x0 : FVec Ideal S512x157 .f32) : FVec Ideal S512x157 .f32 :=
  select (k0_pay3 (F := Ideal) x0) (broadcast S512x157 (Scalar.ofBits .f32 0x3F800000#32))
    (broadcast S512x157 (Scalar.ofBits .f32 0x00000000#32))

/-- The product with its missing features' columns replaced. -/
def pre (x0 : FVec Ideal S512x157 .f32) (x1 : FVec Ideal S236x2512 .bf16) (x2 : FVec Ideal S1x2512 .f32) :
    FVec Ideal S512x2512 .f32 :=
  select (cmpf .one (marks (none x0)) (broadcast S512x2512 (Scalar.ofBits .f32 0x00000000#32)))
    (broadcastTo S512x2512 x2 broadcasts_S1x2512_S512x2512)
    (matmul dot_S512x236_S236x2512_S512x2512_1_0_0_1_n_n Option.none (truncf .bf16 (left x0) bitsLt_bf16_f32) x1
      (constant S512x2512 .f32 0x00000000#32))

/-- The exact gelu as the body spells it: the argument times one half and half its error function. -/
def gelu (y : EReal) : EReal :=
  y * (Ideal.ofBits .f32 0x3F000000#32 + Ideal.ofBits .f32 0x3F000000#32 *
    FloatOps.erf (F := Ideal) (φ := .f32) (y * Ideal.ofBits .f32 0x3F3504F3#32))

/-- A feature's value rounded toward zero, as a word. -/
def word (x : EReal) : BitVec 32 := FloatOps.fptosi (F := Ideal) (φ := .f32) 32 x

/-- One where the word of a value is a table row's number. -/
def hot (x : EReal) (v : ℕ) : EReal := if word x = BitVec.ofNat 32 v then 1 else 0

/-- No value differs from itself, so no feature is missing. -/
theorem none_apply (x0 : FVec Ideal S512x157 .f32) : none x0 = fun _ => (0 : EReal) := by
  funext j
  idx_vars j
  pointwise [none, k0_pay3]
  exact if_neg (fun h => h rfl)

/-- No feature missing: no place is marked. -/
theorem marks_zero : marks (fun _ => (0 : EReal)) = fun _ => (0 : EReal) := by
  funext j
  idx_vars j
  pointwise [marks]
  simp only [dite_eq_ite, ite_self]

/-- No feature missing: the features stand as they are. -/
theorem kept_apply (x0 : FVec Ideal S512x157 .f32) : k0_pay4 (F := Ideal) x0 = x0 := by
  funext j
  idx_vars j
  pointwise [k0_pay2, k0_pay3, k0_pay4]
  exact if_neg (fun h => h rfl)

/-- No feature missing: the product stands as it is. -/
theorem pre_apply (x0 : FVec Ideal S512x157 .f32) (x1 : FVec Ideal S236x2512 .bf16) (x2 : FVec Ideal S1x2512 .f32)
    (r : Fin 512) (k : Fin 2512) :
    pre x0 x1 x2 (ix2 r k) = ∑ q : Fin 236, left x0 (ix2 r q) * x1 (ix2 q k) := by
  rw [pre, none_apply, marks_zero]
  pointwise []
  exact if_neg (fun h => h rfl)

/-- The body stores the gelu of the product. -/
theorem stored_apply (x0 : FVec Ideal S512x157 .f32) (x1 : FVec Ideal S236x2512 .bf16) (x2 : FVec Ideal S1x2512 .f32)
    (r : Fin 512) (k : Fin 2512) :
    stored x0 x1 x2 (ix2 r k) = gelu (∑ q : Fin 236, left x0 (ix2 r q) * x1 (ix2 q k)) := by
  have h : stored x0 x1 x2 = mulf (pre x0 x1 x2) (addf (broadcast S512x2512 (Scalar.ofBits .f32 0x3F000000#32))
    (mulf (broadcast S512x2512 (Scalar.ofBits .f32 0x3F000000#32))
     (erf (mulf (pre x0 x1 x2) (broadcast S512x2512 (Scalar.ofBits .f32 0x3F3504F3#32)))))) := by
    unfold pre
    rw [stored, k0_pay1, shapeCast_self, shapeCast_self, shapeCast_self]
    rfl
  rw [h]
  pointwise [pre_apply, gelu]

/-- Choosing one against zero by a comparison of words. -/
theorem select_hot (x : EReal) (v : ℕ) :
    Scalar.select (IntOp.cmpi .eq (FloatOps.fptosi (F := Ideal) (φ := .f32) 32 x) (BitVec.ofNat 32 v)) (1 : EReal) 0
      = hot x v := by
  simp only [hot, word, IntOp.cmpi, Scalar.select]
  by_cases h : FloatOps.fptosi (F := Ideal) (φ := .f32) 32 x = BitVec.ofNat 32 v
  · simp [h]
  · simp only [h, if_false, beq_eq_false_iff_ne.2 h, BitVec.ofBool_false]
    exact if_neg (by decide)

/-- The one-hot of table value 0. -/
theorem hot0_apply (x0 : FVec Ideal S512x157 .f32) (r : Fin 512) (i : Fin 11) :
    k0_pay6 (F := Ideal) x0 (ix2 r i) = hot (x0 (ix2 r ⟨i.val, by omega⟩)) 0 := by
  pointwise [k0_pay6, k0_pay5, kept_apply]
  exact select_hot _ _

/-- The one-hot of table value 1. -/
theorem hot1_apply (x0 : FVec Ideal S512x157 .f32) (r : Fin 512) (i : Fin 11) :
    k0_pay7 (F := Ideal) x0 (ix2 r i) = hot (x0 (ix2 r ⟨i.val, by omega⟩)) 1 := by
  pointwise [k0_pay7, k0_pay5, kept_apply]
  exact select_hot _ _

/-- The one-hot of table value 2. -/
theorem hot2_apply (x0 : FVec Ideal S512x157 .f32) (r : Fin 512) (i : Fin 11) :
    k0_pay8 (F := Ideal) x0 (ix2 r i) = hot (x0 (ix2 r ⟨i.val, by omega⟩)) 2 := by
  pointwise [k0_pay8, k0_pay5, kept_apply]
  exact select_hot _ _

/-- The one-hot of table value 3. -/
theorem hot3_apply (x0 : FVec Ideal S512x157 .f32) (r : Fin 512) (i : Fin 11) :
    k0_pay9 (F := Ideal) x0 (ix2 r i) = hot (x0 (ix2 r ⟨i.val, by omega⟩)) 3 := by
  pointwise [k0_pay9, k0_pay5, kept_apply]
  exact select_hot _ _

/-- The one-hot of table value 4. -/
theorem hot4_apply (x0 : FVec Ideal S512x157 .f32) (r : Fin 512) (i : Fin 11) :
    k0_pay10 (F := Ideal) x0 (ix2 r i) = hot (x0 (ix2 r ⟨i.val, by omega⟩)) 4 := by
  pointwise [k0_pay10, k0_pay5, kept_apply]
  exact select_hot _ _

/-- The one-hot of table value 5. -/
theorem hot5_apply (x0 : FVec Ideal S512x157 .f32) (r : Fin 512) (i : Fin 11) :
    k0_pay11 (F := Ideal) x0 (ix2 r i) = hot (x0 (ix2 r ⟨i.val, by omega⟩)) 5 := by
  pointwise [k0_pay11, k0_pay5, kept_apply]
  exact select_hot _ _

/-- The one-hot of table value 6. -/
theorem hot6_apply (x0 : FVec Ideal S512x157 .f32) (r : Fin 512) (i : Fin 11) :
    hot6 x0 (ix2 r i) = hot (x0 (ix2 r ⟨i.val, by omega⟩)) 6 := by
  pointwise [hot6, k0_pay5, kept_apply]
  exact select_hot _ _

/-- A choice equals a value that both of its branches equal. -/
theorem choice_eq {p : Prop} [Decidable p] {f : p → EReal} {g : ¬ p → EReal} {z : EReal}
    (h : ∀ a, f a = z) (h' : ∀ a, g a = z) : dite p f g = z := by
  by_cases hp : p
  · rw [dif_pos hp, h]
  · rw [dif_neg hp, h']

/-- The one-hot columns numbered through: column `11 v + i` is feature `i`'s one-hot of value `v`. -/
theorem hot_at (x : Fin 157 → EReal) (n v i : ℕ) (hi' : i < 157) (hi : i < 11) (hv : v < 7) (hn : n = 11 * v + i) :
    hot (x ⟨i, hi'⟩) v = if n < 77 then hot (x ⟨n % 11, by omega⟩) (n / 11) else 1 := by
  have e : (⟨n % 11, by omega⟩ : Fin 157) = ⟨i, hi'⟩ := Fin.ext (by show n % 11 = i; omega)
  rw [if_pos (by omega), e, show n / 11 = v by omega]

/-- The product's left operand at a column: a feature, a one-hot, or one. -/
theorem left_apply (x0 : FVec Ideal S512x157 .f32) (r : Fin 512) (q : Fin 236) :
    left x0 (ix2 r q) = if h : q.val < 157 then (x0 (ix2 r ⟨q.val, h⟩) : EReal)
      else if q.val - 157 < 77 then hot (x0 (ix2 r ⟨(q.val - 157) % 11, by omega⟩)) ((q.val - 157) / 11)
      else 1 := by
  pointwise [left, kept_apply, hot0_apply, hot1_apply, hot2_apply, hot3_apply, hot4_apply, hot5_apply, hot6_apply]
  by_cases h : q.val < 157
  · simp only [h, dif_pos]
  · simp only [h, dif_neg, not_false_eq_true]
    refine choice_eq (fun h0 => hot_at (fun i => x0 (ix2 r i)) (q.val - 157) 0 _ _ ?_ ?_ ?_) fun h0 =>
      choice_eq (fun h1 => hot_at (fun i => x0 (ix2 r i)) (q.val - 157) 1 _ _ ?_ ?_ ?_) fun h1 =>
      choice_eq (fun h2 => hot_at (fun i => x0 (ix2 r i)) (q.val - 157) 2 _ _ ?_ ?_ ?_) fun h2 =>
      choice_eq (fun h3 => hot_at (fun i => x0 (ix2 r i)) (q.val - 157) 3 _ _ ?_ ?_ ?_) fun h3 =>
      choice_eq (fun h4 => hot_at (fun i => x0 (ix2 r i)) (q.val - 157) 4 _ _ ?_ ?_ ?_) fun h4 =>
      choice_eq (fun h5 => hot_at (fun i => x0 (ix2 r i)) (q.val - 157) 5 _ _ ?_ ?_ ?_) fun h5 =>
      choice_eq (fun h6 => hot_at (fun i => x0 (ix2 r i)) (q.val - 157) 6 _ _ ?_ ?_ ?_) fun h6 =>
      (if_neg (by omega)).symm
    all_goals omega

end Cert.KernelIdeal.Block

end
-- ==== Proof.K.Sum.lean ====
/- The product of a row's operand with a column's operand, worked out: an entry of a table or a line in the
   feature's value, and the position. -/
module

public import proofs.«01_k».proof.Proof.K.HostValues
public import proofs.«01_k».proof.Proof.K.Block

@[expose] public section

set_option maxRecDepth 16384

noncomputable section

namespace Cert.KernelIdeal.Sum

open Idealize.ShloMosaic Idealize.ShloMosaic.TcCoe Idealize.SL.Sem
open Cert.KernelIdeal Cert.KernelIdeal.Gen Cert.KernelIdeal.Host Cert.KernelIdeal.Block

/-- The embedding of a row's feature `d` in channel `h`: its table entry if it is one of the first eleven, its
line otherwise. -/
def entry (x : Fin 157 → EReal) (t : FVec Ideal S11x7x16 .f32) (w b : FVec Ideal S146x16 .f32)
    (d : Fin 157) (h : Fin 16) : EReal :=
  if hd : d.val < 11 then t (ix3 ⟨d.val, hd⟩ ⟨(word (x d)).toNat % 7, Nat.mod_lt _ (by omega)⟩ h)
  else x d * w (ix2 ⟨d.val - 11, by omega⟩ h) + b (ix2 ⟨d.val - 11, by omega⟩ h)

/-- A column's channel. -/
abbrev chan (k : Fin 2512) : Fin 16 := ⟨k.val / 157, by omega⟩

/-- A column's feature. -/
abbrev feat (k : Fin 2512) : Fin 157 := ⟨k.val % 157, by omega⟩

/-- A column's entry of the position table. -/
abbrev posAt (p : FVec Ideal S157x16 .f32) (k : Fin 2512) : EReal :=
  p (ix2 ⟨k.val / 16, by omega⟩ ⟨k.val % 16, by omega⟩)

/-- A sum over the product's columns, part by part. -/
theorem sum_parts (f : Fin 236 → EReal) :
    ∑ q : Fin 236, f q = (∑ j : Fin 157, f ⟨j.val, by omega⟩) + (∑ q : Fin 77, f ⟨157 + q.val, by omega⟩)
      + (f ⟨234, by omega⟩ + f ⟨235, by omega⟩) := by
  rw [show (∑ q : Fin 236, f q) = ∑ q : Fin (157 + 77 + 2), f q from rfl, Fin.sum_univ_add, Fin.sum_univ_add,
    Fin.sum_univ_two]
  rfl

/-- The features' part of the sum. -/
theorem sum_masked (x : Fin 157 → EReal) (w : FVec Ideal S146x16 .f32) (k : Fin 2512) :
    (∑ j : Fin 157, x j * masked w (ix2 j k)) = if h : k.val % 157 < 11 then (0 : EReal)
      else x (feat k) * w (ix2 ⟨k.val % 157 - 11, by omega⟩ (chan k)) := by
  rw [Finset.sum_eq_single (feat k)]
  · rw [masked_apply, if_pos rfl]
    by_cases h : k.val % 157 < 11
    · rw [dif_pos h, dif_pos h, mul_zero]
    · rw [dif_neg h, dif_neg h]
  · intro j _ hj
    rw [masked_apply, if_neg (fun e => hj (Fin.ext e)), mul_zero]
  · intro h
    exact absurd (Finset.mem_univ _) h

/-- The tables' part of the sum. -/
theorem sum_tables (x : Fin 157 → EReal) (t : FVec Ideal S11x7x16 .f32) (k : Fin 2512)
    (hw : ∀ d : Fin 157, d.val < 11 → (word (x d)).toNat < 7) :
    (∑ q : Fin 77, hot (x ⟨q.val % 11, by omega⟩) (q.val / 11) * tables t (ix2 q k))
      = if h : k.val % 157 < 11 then
          (t (ix3 ⟨k.val % 157, h⟩ ⟨(word (x (feat k))).toNat % 7, Nat.mod_lt _ (by omega)⟩ (chan k)) : EReal)
        else 0 := by
  by_cases h : k.val % 157 < 11
  · rw [dif_pos h]
    have h7 := hw (feat k) h
    generalize hv : (word (x (feat k))).toNat = v at h7 ⊢
    have hword : word (x (feat k)) = BitVec.ofNat 32 v := by
      rw [← hv, BitVec.ofNat_toNat, BitVec.setWidth_eq]
    rw [Finset.sum_eq_single (⟨11 * v + k.val % 157, by omega⟩ : Fin 77)]
    · have e1 : (11 * v + k.val % 157) % 11 = k.val % 157 := by omega
      have e2 : (11 * v + k.val % 157) / 11 = v := by omega
      rw [tables_apply, if_pos e1]
      simp only [e1, e2, Nat.mod_eq_of_lt h7]
      rw [hot, if_pos hword, one_mul]
    · intro q _ hq
      rw [tables_apply]
      by_cases hm : q.val % 11 = k.val % 157
      · have e : (⟨q.val % 11, by omega⟩ : Fin 157) = feat k := Fin.ext hm
        rw [e, hot, if_neg, zero_mul]
        rw [hword]
        intro e'
        have e2 := congrArg BitVec.toNat e'
        rw [BitVec.toNat_ofNat, BitVec.toNat_ofNat] at e2
        refine hq (Fin.ext ?_)
        show q.val = 11 * v + k.val % 157
        omega
      · rw [if_neg hm, mul_zero]
    · intro h'
      exact absurd (Finset.mem_univ _) h'
  · rw [dif_neg h]
    refine Finset.sum_eq_zero fun q _ => ?_
    rw [tables_apply, if_neg (by omega), mul_zero]

/-- A number but the top, and its difference from itself, add up to it: the difference is zero, or both are the
bottom. -/
theorem add_sub_same (a : EReal) (h : a ≠ ⊤) : a + (a - a) = a := by
  induction a with
  | bot => exact EReal.bot_add _
  | coe r => rw [EReal.sub_self (EReal.coe_ne_top r) (EReal.coe_ne_bot r), add_zero]
  | top => exact absurd rfl h

/-- The whole sum: the embedding and the position. -/
theorem sum_eq (x : Fin 157 → EReal) (t : FVec Ideal S11x7x16 .f32) (w b : FVec Ideal S146x16 .f32)
    (p : FVec Ideal S157x16 .f32) (l : Fin 236 → EReal) (k : Fin 2512)
    (hl : ∀ q : Fin 236, l q = if h : q.val < 157 then x ⟨q.val, h⟩
      else if q.val - 157 < 77 then hot (x ⟨(q.val - 157) % 11, by omega⟩) ((q.val - 157) / 11) else 1)
    (hw : ∀ d : Fin 157, d.val < 11 → (word (x d)).toNat < 7)
    (hb : ∀ i, b i ≠ (⊤ : EReal)) (hp : ∀ i, p i ≠ (⊤ : EReal)) :
    (∑ q : Fin 236, l q * mat t w b p (ix2 q k)) = entry x t w b (feat k) (chan k) + posAt p k := by
  have h0 : offsets b p (ix1 k) + (offsets b p (ix1 k) - offsets b p (ix1 k)) = (offsets b p (ix1 k) : EReal) := by
    refine add_sub_same _ ?_
    rw [offsets_apply]
    by_cases h : k.val % 157 < 11
    · rw [dif_pos h, add_zero]
      exact hp _
    · rw [dif_neg h]
      exact EReal.add_ne_top (hp _) (hb _)
  have e1 : (∑ j : Fin 157, l ⟨j.val, by omega⟩ * mat t w b p (ix2 ⟨j.val, by omega⟩ k))
      = ∑ j : Fin 157, x j * masked w (ix2 j k) := by
    refine Finset.sum_congr rfl fun j _ => ?_
    rw [hl, mat_apply, dif_pos j.isLt, dif_pos j.isLt]
  have e2 : (∑ q : Fin 77, l ⟨157 + q.val, by omega⟩ * mat t w b p (ix2 ⟨157 + q.val, by omega⟩ k))
      = ∑ q : Fin 77, hot (x ⟨q.val % 11, by omega⟩) (q.val / 11) * tables t (ix2 q k) := by
    refine Finset.sum_congr rfl fun q _ => ?_
    have e : 157 + q.val - 157 = q.val := by omega
    rw [hl, mat_apply, dif_neg (by dsimp only; omega), dif_neg (by dsimp only; omega)]
    simp only [e, q.isLt, if_true, dif_pos]
  have e3 : l ⟨234, by omega⟩ * mat t w b p (ix2 ⟨234, by omega⟩ k) = offsets b p (ix1 k) := by
    rw [hl, mat_apply, dif_neg (by decide), dif_neg (by decide), if_neg (by decide), dif_neg (by decide),
      if_pos (by decide), one_mul]
  have e4 : l ⟨235, by omega⟩ * mat t w b p (ix2 ⟨235, by omega⟩ k)
      = offsets b p (ix1 k) - offsets b p (ix1 k) := by
    rw [hl, mat_apply, dif_neg (by decide), dif_neg (by decide), if_neg (by decide), dif_neg (by decide),
      if_neg (by decide), one_mul]
  rw [sum_parts, e1, e2, e3, e4, h0, sum_masked, sum_tables x t k hw, offsets_apply]
  unfold entry posAt
  by_cases h : k.val % 157 < 11
  · simp only [h, dif_pos, zero_add, add_zero]
  · simp only [h, dif_neg, not_false_eq_true, add_zero]
    rw [add_assoc, add_comm (p _)]

end Cert.KernelIdeal.Sum

end
-- ==== Proof.K.Value.lean ====
/- The kernel's result array after the run, as a function of the arguments. -/
module

public import proofs.«01_k».proof.Proof.K.Sum
public import proofs.«01_k».proof.Proof.Gen.KernelIdeal.Value
public import Idealize.ShloMosaic.Lib.Pipeline.ValueKit

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Host Cert.KernelIdeal.Block Cert.KernelIdeal.Sum

/-- The features laid out row by row. -/
abbrev rows (X : FVec Ideal S1024x20x157 .f32) : FVec Ideal S20480x157 .f32 :=
  shapeCast S20480x157 X shapeCasts_S1024x20x157_S20480x157

/-- The result: each place the gelu of its feature's embedding and its position. -/
def G (X : FVec Ideal S1024x20x157 .f32) (t : FVec Ideal S11x7x16 .f32) (w b : FVec Ideal S146x16 .f32)
    (p : FVec Ideal S157x16 .f32) : FVec Ideal S20480x2512 .f32 := fun i =>
  gelu (entry (fun d => rows X (ix2 (i 0) d)) t w b (feat (i 1)) (chan (i 1)) + posAt p (i 1))

variable (m : (ℓ : Loc nD τ sig) → Buf (Elt Ideal) ℓ)

/-- Where each window's block lies at a point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The features' block at a point: its rows of the array. -/
theorem blk_x (c : Dev nD) (t : Fin cfg0.N) (r : Fin 512) (d : Fin 157) (R : Fin 20480) (hR : R.val = t.val * 512 + r.val) :
    (iblk m c 0 t : FVec Ideal S512x157 .f32) (ix2 r d) = (V m c main_v0 : FVec Ideal S20480x157 .f32) (ix2 R d) := by
  blk_ext [iblk, idx t]

/-- The matrix's block at every point: the whole matrix. -/
theorem blk_mat (c : Dev nD) (t : Fin cfg0.N) (q : Fin 236) (k : Fin 2512) :
    (iblk m c 1 t : FVec Ideal S236x2512 .bf16) (ix2 q k) = (V m c main_v49 : FVec Ideal S236x2512 .bf16) (ix2 q k) := by
  blk_ext [iblk, idx t]

/-- What the precondition gives of a launch: table rows in range, no bias or position the top. -/
structure Good (X : FVec Ideal S1024x20x157 .f32) (b : FVec Ideal S146x16 .f32) (p : FVec Ideal S157x16 .f32) : Prop where
  row : ∀ (r : Fin 20480) (d : Fin 157), d.val < 11 → (word (rows X (ix2 r d))).toNat < 7
  bias : ∀ i, b i ≠ (⊤ : EReal)
  pos : ∀ i, p i ≠ (⊤ : EReal)

/-- What the body stores at a place of a block that holds the array's rows is the result at the array's place. -/
theorem stored_eq (x0 : FVec Ideal S512x157 .f32) (x1 : FVec Ideal S236x2512 .bf16) (x2 : FVec Ideal S1x2512 .f32)
    (X : FVec Ideal S1024x20x157 .f32) (t : FVec Ideal S11x7x16 .f32) (w b : FVec Ideal S146x16 .f32)
    (p : FVec Ideal S157x16 .f32) (hg : Good X b p) (r : Fin 512) (k : Fin 2512) (R : Fin 20480)
    (h0 : ∀ d : Fin 157, x0 (ix2 r d) = rows X (ix2 R d)) (h1 : ∀ q : Fin 236, x1 (ix2 q k) = mat t w b p (ix2 q k)) :
    stored x0 x1 x2 (ix2 r k) = G X t w b p (ix2 R k) := by
  have e : (∑ q : Fin 236, left x0 (ix2 r q) * x1 (ix2 q k))
      = entry (fun d => rows X (ix2 R d)) t w b (feat k) (chan k) + posAt p k := by
    rw [← sum_eq (fun d => rows X (ix2 R d)) t w b p (fun q => left x0 (ix2 r q)) k
      (fun q => by rw [left_apply]; simp only [h0]) (fun d hd => hg.row R d hd) hg.bias hg.pos]
    exact Finset.sum_congr rfl fun q _ => by rw [h1]
  rw [stored_apply, e]
  rfl

/-- The features' block at a point holds the array's rows. -/
theorem blk_rows (c : Dev nD) (t : Fin cfg0.N) (r : Fin 512) (d : Fin 157) (R : Fin 20480)
    (hR : R.val = t.val * 512 + r.val) : (iblk m c 0 t : FVec Ideal S512x157 .f32) (ix2 r d)
      = rows (m ((c : Thread nD τ).loc main_arg0)) (ix2 R d) :=
  (blk_x m c t r d R hR).trans (congrFun (V_x m c) (ix2 R d))

/-- The matrix's block at every point is the matrix the host computed. -/
theorem blk_host (c : Dev nD) (t : Fin cfg0.N) (q : Fin 236) (k : Fin 2512) :
    (iblk m c 1 t : FVec Ideal S236x2512 .bf16) (ix2 q k)
      = mat (m ((c : Thread nD τ).loc main_arg1)) (m ((c : Thread nD τ).loc main_arg2)) (m ((c : Thread nD τ).loc main_arg3))
          (m ((c : Thread nD τ).loc main_arg5)) (ix2 q k) :=
  (blk_mat m c t q k).trans (congrFun (V_mat m c) (ix2 q k))

/-- The result array after the run. -/
theorem final (c : Dev nD)
    (hg : Good (m ((c : Thread nD τ).loc main_arg0)) (m ((c : Thread nD τ).loc main_arg3)) (m ((c : Thread nD τ).loc main_arg5))) :
    (dats m 0 c).arrAt 3 cfg0.N
      = G (m ((c : Thread nD τ).loc main_arg0)) (m ((c : Thread nD τ).loc main_arg1)) (m ((c : Thread nD τ).loc main_arg2))
          (m ((c : Thread nD τ).loc main_arg3)) (m ((c : Thread nD τ).loc main_arg5)) := by
  refine (dats m 0 c).arrAt_eq_of_covers 3 _ (by decide +kernel) fun t _ y => ?_
  blk_simp
  rw [after0_3]
  frame_out
  have h : ∀ (y : S512x2512.Idx) (R : Fin 20480), R.val = t.val * 512 + (y 0).val →
      stored (iblk m c 0 t) (iblk m c 1 t) (iblk m c 2 t) y
        = G (m ((c : Thread nD τ).loc main_arg0)) (m ((c : Thread nD τ).loc main_arg1))
            (m ((c : Thread nD τ).loc main_arg2)) (m ((c : Thread nD τ).loc main_arg3))
            (m ((c : Thread nD τ).loc main_arg5)) (ix2 R (y 1)) := fun y R hR => by
    rw [eq_ix2 y]
    exact stored_eq _ _ _ _ _ _ _ _ hg (y 0) (y 1) R (fun d => blk_rows m c t (y 0) d R hR)
      (fun q => blk_host m c t q (y 1))
  have ht : t.val < 40 := t.isLt
  have hy : (y 0).val < 512 := (y 0).isLt
  refine (h y ⟨t.val * 512 + (y 0).val, by omega⟩ rfl).trans (congrArg _ ?_)
  blk_ext [idx t]

end Cert.KernelIdeal.Final

end
-- ==== Proof.Range.lean ====
/- What the precondition says of the arguments: each category is a row of its table, and no offset or position is
   the top. -/
module

public import proofs.«01_k».proof.Defs
public import proofs.«01_k».proof.Proof.K.Value
public import proofs.«01_k».proof.Proof.Gen.Pre_indices_and_offsets_in_range
public import Idealize.ShloMosaic.Lib.ReduceAll
public import Idealize.ShloMosaic.Lib.Pointwise

@[expose] public section

set_option maxRecDepth 16384

noncomputable section

namespace Cert.Range

open Idealize.ShloMosaic Idealize.ShloMosaic.TcCoe Idealize.SL.Sem
open Cert.Pre_indices_and_offsets_in_range
open Cert.KernelIdeal.Block (word)
open Cert.KernelIdeal.Final (Good rows)

/-- The word minus one is the real minus one. -/
theorem ofBits_neg_one : Ideal.ofBits .f32 0xBF800000#32 = ((-1 : ℝ) : EReal) := by
  simp [Ideal.ofBits, Ideal.ieee, -EReal.coe_mul, -EReal.coe_neg]
  norm_num

/-- The word seven is the real seven. -/
theorem ofBits_seven : Ideal.ofBits .f32 0x40E00000#32 = ((7 : ℝ) : EReal) := by
  simp [Ideal.ofBits, Ideal.ieee, -EReal.coe_mul]
  norm_num

/-- The word infinity is the top. -/
theorem ofBits_inf : Ideal.ofBits .f32 0x7F800000#32 = (⊤ : EReal) := by
  simp [Ideal.ofBits, Ideal.ieee]

/-- A number strictly between minus one and seven truncates to a word below seven. -/
theorem word_lt (x : EReal) (h0 : ((-1 : ℝ) : EReal) < x) (h7 : x < ((7 : ℝ) : EReal)) : (word x).toNat < 7 := by
  induction x with
  | bot => exact absurd h0 (not_lt_of_ge bot_le)
  | top => exact absurd h7 (not_lt_of_ge le_top)
  | coe r =>
    have h0' : (-1 : ℝ) < r := EReal.coe_lt_coe_iff.1 h0
    have h7' : r < 7 := EReal.coe_lt_coe_iff.1 h7
    obtain ⟨z, hz, hlo, hhi⟩ : ∃ z : Int, (if 0 ≤ r then ⌊r⌋ else ⌈r⌉) = z ∧ 0 ≤ z ∧ z < 7 := by
      refine ⟨_, rfl, ?_, ?_⟩
      · split
        · rename_i h; exact Int.floor_nonneg.2 h
        · have : (-1 : Int) < ⌈r⌉ := Int.lt_ceil.2 (by push_cast; exact h0')
          omega
      · split
        · exact Int.floor_lt.2 (by push_cast; exact h7')
        · rename_i h
          have : ⌈r⌉ ≤ 0 := Int.ceil_le.2 (by push_cast; linarith)
          omega
    have e : word (r : EReal) = BitVec.ofInt 32 (max (-(2 ^ 31 : Nat)) (min ((2 ^ 31 : Nat) - 1) z)) := by
      rw [← hz]; rfl
    have ez : max (-((2 ^ 31 : Nat) : Int)) (min (((2 ^ 31 : Nat) : Int) - 1) z) = z := by omega
    rw [e, ez, BitVec.toNat_ofInt]
    omega

/-- A truth value whose bit is one is true. -/
theorem of_bit (b : Bool) (h : BitVec.ofBool b = 1#1) : b = true := by
  cases b
  · exact absurd h (by decide)
  · rfl

/-- The launch's arguments under the precondition. -/
theorem good (X : FVec Ideal S1024x20x157 .f32) (t : FVec Ideal S11x7x16 .f32) (w b : FVec Ideal S146x16 .f32)
    (na : FVec Ideal S1x16 .f32) (p : FVec Ideal S157x16 .f32) (j : S_.Idx) (h : fn (F := Ideal) X t w b na p j = 1#1) :
    Good X b p := by
  have : Subsingleton S_.Idx := ⟨fun a b => funext fun k => k.elim0⟩
  obtain ⟨h12, h3⟩ := IntOp.andi_eq_one.1 h
  obtain ⟨h1, h2⟩ := IntOp.andi_eq_one.1 h12
  have a1 := fun i => Host.reduce_andi_all _ _ _ _ _ h1 i
  have a2 := fun i => Host.reduce_andi_all _ _ _ _ _ h2 i
  have a3 := fun i => Host.reduce_andi_all _ _ _ _ _ h3 i
  refine ⟨fun r d hd => ?_, fun i => ?_, fun i => ?_⟩
  · have e := a1 (ix3 ⟨r.val / 20, by omega⟩ ⟨r.val % 20, by omega⟩ ⟨d.val, hd⟩)
    have hx : rows X (ix2 r d) = X (ix3 ⟨r.val / 20, by omega⟩ ⟨r.val % 20, by omega⟩ d) := by
      pointwise []
    rw [hx]
    pointwise [] at e
    obtain ⟨e0, e1⟩ := IntOp.andi_eq_one.1 e
    rw [ofBits_neg_one] at e0
    rw [ofBits_seven] at e1
    exact word_lt _ (of_decide_eq_true (of_bit _ e0)) (of_decide_eq_true (of_bit _ e1))
  · have e := a2 i
    idx_vars i
    pointwise [] at e
    rw [ofBits_inf] at e
    exact ne_of_lt (of_decide_eq_true (of_bit _ e))
  · have e := a3 i
    idx_vars i
    pointwise [] at e
    rw [ofBits_inf] at e
    exact ne_of_lt (of_decide_eq_true (of_bit _ e))

end Cert.Range

end
-- ==== Proof.R.Defs.lean ====
/- The reference's result as a composition of named pure functions of its arguments. -/
module

public import proofs.«01_k».proof.Proof.Gen.ReferenceIdeal.Run
public import Idealize.ShloMosaic.Lib.Pointwise

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen

/-- The features laid out row by row. -/
abbrev rows (X : FVec Ideal S1024x20x157 .f32) : FVec Ideal S20480x157 .f32 :=
  shapeCast S20480x157 X shapeCasts_S1024x20x157_S20480x157

/-- The features with the missing ones cleared. -/
def kept (X : FVec Ideal S1024x20x157 .f32) : FVec Ideal S20480x157 .f32 :=
  select (cmpf .une (rows X) (rows X)) (broadcastInDim S20480x157 ![] bcast_S_S20480x157 (id (constant S_ .f32 0x00000000#32)))
    (rows X)

/-- The categorical features as words. -/
def words (X : FVec Ideal S1024x20x157 .f32) : IVec S20480x11 32 :=
  fptosi 32 (extractStridedSlice S20480x11 ![0, 0] (kept X) slices_S20480x157_S20480x11_0_0)

/-- The table rows asked for, a negative one counted from the table's end. -/
def starts (X : FVec Ideal S1024x20x157 .f32) : IVec S11x20480x1 32 :=
  broadcastInDim S11x20480x1 ![0, 1] bcast_S11x20480_S11x20480x1_0_1 (transpose S11x20480 [1, 0]
    (select (cmpi .slt (words X) (broadcastInDim S20480x11 ![] bcast_S_S20480x11 (constantI S_ 32 0#32)))
      (addi (words X) (broadcastInDim S20480x11 ![] bcast_S_S20480x11 (constantI S_ 32 7#32))) (words X))
    transposes_S20480x11_S11x20480_1_0)

/-- Whether a row asked for is one of the table. -/
def inRange (X : FVec Ideal S1024x20x157 .f32) : IVec S11x20480 1 :=
  Host.reduce IntOp.andi
    (andi (cmpi .sge (starts X) (broadcastInDim S11x20480x1 ![] bcast_S_S11x20480x1 (constantI S_ 32 0#32)))
      (cmpi .sle (starts X) (broadcastInDim S11x20480x1 ![0, 1, 2] bcast_S1x1x1_S11x20480x1_0_1_2
        (broadcastInDim S1x1x1 ![2] bcast_S1_S1x1x1_2 (constantI S1 32 6#32)))))
    (constantI S_ 1 1#1) reducesTo_S11x20480x1_S11x20480_d2 h_S_

/-- The table rows taken. -/
def took (X : FVec Ideal S1024x20x157 .f32) (t : FVec Ideal S11x7x16 .f32) : FVec Ideal S11x20480x16 .f32 :=
  select (broadcastInDim S11x20480x16 ![0, 1] bcast_S11x20480_S11x20480x16_0_1 (inRange X))
    (Host.gather gather_S11x7x16_S11x20480x1_S11x20480x16_2_1_0_0_1_2_1116 t (starts X))
    (broadcastInDim S11x20480x16 ![] bcast_S_S11x20480x16 (constant S_ .f32 0x7FC00000#32))

/-- The continuous features' lines. -/
def lines (X : FVec Ideal S1024x20x157 .f32) (w b : FVec Ideal S146x16 .f32) : FVec Ideal S20480x146x16 .f32 :=
  addf (mulf (broadcastInDim S20480x146x16 ![0, 1, 2] bcast_S20480x146x1_S20480x146x16_0_1_2
      (broadcastInDim S20480x146x1 ![0, 1] bcast_S20480x146_S20480x146x1_0_1
        (extractStridedSlice S20480x146 ![0, 11] (kept X) slices_S20480x157_S20480x146_0_11)))
      (broadcastInDim S20480x146x16 ![0, 1, 2] bcast_S1x146x16_S20480x146x16_0_1_2
        (broadcastInDim S1x146x16 ![1, 2] bcast_S146x16_S1x146x16_1_2 w)))
    (broadcastInDim S20480x146x16 ![0, 1, 2] bcast_S1x146x16_S20480x146x16_0_1_2
      (broadcastInDim S1x146x16 ![1, 2] bcast_S146x16_S1x146x16_1_2 b))

/-- Every feature's embedding, a missing feature's replaced. -/
def embed (X : FVec Ideal S1024x20x157 .f32) (t : FVec Ideal S11x7x16 .f32) (w b : FVec Ideal S146x16 .f32)
    (na : FVec Ideal S1x16 .f32) : FVec Ideal S20480x157x16 .f32 :=
  select (broadcastInDim S20480x157x16 ![0, 1, 2] bcast_S20480x157x1_S20480x157x16_0_1_2
      (broadcastInDim S20480x157x1 ![0, 1] bcast_S20480x157_S20480x157x1_0_1 (cmpf .une (rows X) (rows X))))
    (broadcastInDim S20480x157x16 ![0, 1, 2] bcast_S1x1x16_S20480x157x16_0_1_2
      (broadcastInDim S1x1x16 ![2] bcast_S16_S1x1x16_2 (shapeCast S16 na shapeCasts_S1x16_S16)))
    (concatenate S20480x157x16 1
      [⟨S20480x11x16, transpose S20480x11x16 [1, 0, 2] (took X t) transposes_S11x20480x16_S20480x11x16_1_0_2⟩,
        ⟨S20480x146x16, lines X w b⟩] concatenates_S20480x11x16_S20480x146x16_S20480x157x16_d1)

/-- The position rows asked for. -/
def posStarts : IVec S157x1 32 :=
  broadcastInDim S157x1 ![0] bcast_S157_S157x1_0
    (select (cmpi .slt (iotaInDim S157 32 0) (broadcastInDim S157 ![] bcast_S_S157 (constantI S_ 32 0#32)))
      (addi (iotaInDim S157 32 0) (broadcastInDim S157 ![] bcast_S_S157 (constantI S_ 32 157#32))) (iotaInDim S157 32 0))

/-- Whether each is a row of the position table. -/
def posInRange : IVec S157 1 :=
  Host.reduce IntOp.andi
    (andi (cmpi .sge posStarts (broadcastInDim S157x1 ![] bcast_S_S157x1 (constantI S_ 32 0#32)))
      (cmpi .sle posStarts (broadcastInDim S157x1 ![0, 1] bcast_S1x1_S157x1_0_1
        (broadcastInDim S1x1 ![1] bcast_S1_S1x1_1 (constantI S1 32 156#32)))))
    (constantI S_ 1 1#1) reducesTo_S157x1_S157_d1 h_S_

/-- The position rows taken. -/
def posTook (p : FVec Ideal S157x16 .f32) : FVec Ideal S157x16 .f32 :=
  select (broadcastInDim S157x16 ![0] bcast_S157_S157x16_0 posInRange)
    (Host.gather gather_S157x16_S157x1_S157x16_1_0_n_n_0_1_116 p posStarts)
    (broadcastInDim S157x16 ![] bcast_S_S157x16 (constant S_ .f32 0x7FC00000#32))

/-- Embedding and position, flattened. -/
def total (X : FVec Ideal S1024x20x157 .f32) (t : FVec Ideal S11x7x16 .f32) (w b : FVec Ideal S146x16 .f32)
    (na : FVec Ideal S1x16 .f32) (p : FVec Ideal S157x16 .f32) : FVec Ideal S20480x2512 .f32 :=
  addf (shapeCast S20480x2512 (transpose S20480x16x157 [0, 2, 1] (embed X t w b na) transposes_S20480x157x16_S20480x16x157_0_2_1)
      shapeCasts_S20480x16x157_S20480x2512)
    (shapeCast S20480x2512 (broadcastInDim S20480x157x16 ![0, 1, 2] bcast_S1x157x16_S20480x157x16_0_1_2
      (broadcastInDim S1x157x16 ![1, 2] bcast_S157x16_S1x157x16_1_2 (posTook p))) shapeCasts_S20480x157x16_S20480x2512)

/-- The reference's result from its arguments. -/
def result (X : FVec Ideal S1024x20x157 .f32) (t : FVec Ideal S11x7x16 .f32) (w b : FVec Ideal S146x16 .f32)
    (na : FVec Ideal S1x16 .f32) (p : FVec Ideal S157x16 .f32) : FVec Ideal S20480x2512 .f32 :=
  mulf (mulf (broadcastInDim S20480x2512 ![] bcast_S_S20480x2512 (constant S_ .f32 0x3F000000#32)) (total X t w b na p))
    (Host.erfc (mulf (Host.negf (total X t w b na p))
      (broadcastInDim S20480x2512 ![] bcast_S_S20480x2512 (constant S_ .f32 0x3F3504F3#32))))

/-- The run's result is that composition. -/
theorem res_eq (m : (ℓ : Loc nD τ sig) → Buf (Elt Ideal) ℓ) (c : Dev nD) :
    Value.res_main_v35 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold Value.res_main_v35
  rfl

end Cert.ReferenceIdeal.Stages

end
-- ==== Proof.R.Reads.lean ====
/- The two table reads of the reference, at an index within the table. -/
module

public import proofs.«01_k».proof.Proof.R.Defs
public import Idealize.ShloMosaic.Lib.Routing.Ops
public import Idealize.ShloMosaic.Lib.ReduceAll

@[expose] public section

set_option maxRecDepth 16384

noncomputable section

namespace Cert.ReferenceIdeal.Stages

open Idealize.ShloMosaic Idealize.ShloMosaic.TcCoe
open Cert.ReferenceIdeal Cert.ReferenceIdeal.Gen

/-- A batched read of the category tables at a row of the table. -/
theorem read_tables (t : FVec Ideal S11x7x16 .f32) (s : IVec S11x20480x1 32) (d : Fin 11) (r : Fin 20480) (h : Fin 16)
    (v : Fin 7) (hv : s (ix3 d r 0) = BitVec.ofNat 32 v.val) :
    Host.gather gather_S11x7x16_S11x20480x1_S11x20480x16_2_1_0_0_1_2_1116 t s (ix3 d r h) = t (ix3 d v h) := by
  have hi : (BitVec.ofNat 32 v.val).toInt.toNat = v.val := by
    clear hv; revert v; decide
  unfold Host.gather
  refine congrArg t (funext fun a => Fin.ext ?_)
  match a with
  | ⟨0, _⟩ => exact Nat.zero_add d.val
  | ⟨1, _⟩ =>
    have hsi : GatherDims.siIdx gather_S11x7x16_S11x20480x1_S11x20480x16_2_1_0_0_1_2_1116 (ix3 d r h) ⟨0, by decide⟩
        = ix3 d r (0 : Fin 1) := by
      funext b
      match b with
      | ⟨0, _⟩ => rfl
      | ⟨1, _⟩ => rfl
      | ⟨2, _⟩ => rfl
    have e : min (BitVec.ofNat 32 v.val).toInt.toNat 6 = v.val := by rw [hi]; omega
    rw [← hv, ← hsi] at e
    exact e
  | ⟨2, _⟩ => exact Nat.zero_add h.val

/-- A read of the position table at a row of the table. -/
theorem read_pos (p : FVec Ideal S157x16 .f32) (s : IVec S157x1 32) (d : Fin 157) (h : Fin 16)
    (hv : s (ix2 d 0) = BitVec.ofNat 32 d.val) :
    Host.gather gather_S157x16_S157x1_S157x16_1_0_n_n_0_1_116 p s (ix2 d h) = p (ix2 d h) :=
  Routing.gather_row gather_S157x16_S157x1_S157x16_1_0_n_n_0_1_116 rfl rfl rfl rfl rfl p s d h d hv (by decide)

end Cert.ReferenceIdeal.Stages

end
-- ==== Proof.R.Values.lean ====
/- The reference's result at a place: the gelu of the feature's embedding and the position. -/
module

public import proofs.«01_k».proof.Proof.R.Reads
public import proofs.«01_k».proof.Proof.K.Value
public import Idealize.ShloMosaic.PureOps.Ideal.Laws

@[expose] public section

set_option maxRecDepth 16384

noncomputable section

namespace Cert.ReferenceIdeal.Stages

open Idealize.ShloMosaic Idealize.ShloMosaic.TcCoe
open Cert.ReferenceIdeal Cert.ReferenceIdeal.Gen
open Cert.KernelIdeal.Block (word gelu)
open Cert.KernelIdeal.Sum (entry chan feat posAt)

variable (X : FVec Ideal S1024x20x157 .f32)

/-- No feature is missing among the extended reals. -/
theorem kept_apply (r : Fin 20480) (d : Fin 157) : kept X (ix2 r d) = rows X (ix2 r d) := by
  pointwise [kept]
  exact if_neg (fun h => h rfl)

/-- A categorical feature as a word. -/
theorem words_apply (r : Fin 20480) (d : Fin 11) : words X (ix2 r d) = word (rows X (ix2 r ⟨d.val, by omega⟩)) := by
  have e := kept_apply X r ⟨d.val, by omega⟩
  pointwise [words, word] at e ⊢
  rw [e]

/-- A word that is not negative is kept. -/
theorem keep_word (v a : BitVec 32) (h : v.toNat < 2 ^ 31) : Scalar.select (IntOp.cmpi .slt v 0#32) a v = v := by
  have e : v.slt 0#32 = false := by
    rw [BitVec.slt_eq_decide, BitVec.toInt_eq_toNat_of_lt (by omega)]
    simp
  simp [Scalar.select, IntOp.cmpi, e]

/-- A word up to a bound lies between zero and it. -/
theorem in_range (v b : BitVec 32) (h : v.toNat ≤ b.toNat) (hb : b.toNat < 2 ^ 31) :
    IntOp.andi (IntOp.cmpi .sge v 0#32) (IntOp.cmpi .sle v b) = 1#1 := by
  have e0 : (0#32).sle v = true := by
    rw [BitVec.sle_eq_decide, BitVec.toInt_eq_toNat_of_lt (x := v) (by omega)]
    simp
  have e1 : v.sle b = true := by
    rw [BitVec.sle_eq_decide, BitVec.toInt_eq_toNat_of_lt (x := v) (by omega), BitVec.toInt_eq_toNat_of_lt (by omega)]
    simpa using h
  simp [IntOp.andi, IntOp.cmpi, e0, e1]

/-- A word below seven asks for the row it names. -/
theorem starts_apply (hrow : ∀ (r : Fin 20480) (d : Fin 157), d.val < 11 → (word (rows X (ix2 r d))).toNat < 7)
    (d : Fin 11) (r : Fin 20480) : starts X (ix3 d r 0) = word (rows X (ix2 r ⟨d.val, by omega⟩)) := by
  have h := hrow r ⟨d.val, by omega⟩ d.isLt
  rw [← words_apply] at h ⊢
  generalize hw : words X = W at h ⊢
  pointwise [starts, hw]
  exact keep_word _ _ (by omega)

/-- Every row asked for is one of the table. -/
theorem inRange_apply (hrow : ∀ (r : Fin 20480) (d : Fin 157), d.val < 11 → (word (rows X (ix2 r d))).toNat < 7)
    (d : Fin 11) (r : Fin 20480) : inRange X (ix2 d r) = 1#1 := by
  refine Host.reduce_andi_one _ _ _ _ _ rfl fun i => ?_
  idx_vars i
  have h := hrow i1 ⟨i0.val, by omega⟩ i0.isLt
  have e := starts_apply X hrow i0 i1
  rw [← e] at h
  rw [Fin.fin_one_eq_zero i2]
  generalize hw : starts X = W at h ⊢
  pointwise []
  exact in_range _ _ (by simp; omega) (by decide)

/-- A row taken is the table's at the feature's word. -/
theorem took_apply (t : FVec Ideal S11x7x16 .f32)
    (hrow : ∀ (r : Fin 20480) (d : Fin 157), d.val < 11 → (word (rows X (ix2 r d))).toNat < 7)
    (d : Fin 11) (r : Fin 20480) (h : Fin 16) : took X t (ix3 d r h)
      = t (ix3 d ⟨(word (rows X (ix2 r ⟨d.val, by omega⟩))).toNat % 7, Nat.mod_lt _ (by omega)⟩ h) := by
  have hr := hrow r ⟨d.val, by omega⟩ d.isLt
  have e := inRange_apply X hrow d r
  have g := read_tables t (starts X) d r h
    ⟨(word (rows X (ix2 r ⟨d.val, by omega⟩))).toNat % 7, Nat.mod_lt _ (by omega)⟩ (by
      rw [starts_apply X hrow]
      refine BitVec.eq_of_toNat_eq ?_
      rw [BitVec.toNat_ofNat]
      show _ = _ % 7 % 2 ^ 32
      omega)
  rw [← g]
  generalize hw : inRange X = W at e
  generalize hk : Host.gather gather_S11x7x16_S11x20480x1_S11x20480x16_2_1_0_0_1_2_1116 t (starts X) = K
  pointwise [took, hw, hk]
  rw [e]
  rfl

/-- A continuous feature's line. -/
theorem lines_apply (w b : FVec Ideal S146x16 .f32) (r : Fin 20480) (d : Fin 146) (h : Fin 16) :
    lines X w b (ix3 r d h) = rows X (ix2 r ⟨11 + d.val, by omega⟩) * w (ix2 d h) + b (ix2 d h) := by
  rw [← kept_apply]
  generalize hw : kept X = W
  pointwise [lines, hw]

/-- The position rows asked for are the rows in order. -/
theorem posStarts_apply (d : Fin 157) : posStarts (ix2 d 0) = BitVec.ofNat 32 d.val := by
  pointwise [posStarts]
  exact keep_word _ _ (by simp; omega)

/-- They are all rows of the table. -/
theorem posInRange_apply (d : Fin 157) : posInRange (ix1 d) = 1#1 := by
  refine Host.reduce_andi_one _ _ _ _ _ rfl fun i => ?_
  idx_vars i
  have e := posStarts_apply i0
  rw [Fin.fin_one_eq_zero i1]
  generalize hw : posStarts = W at e ⊢
  pointwise []
  rw [e]
  exact in_range _ _ (by simp; omega) (by decide)

/-- The position rows taken are the table. -/
theorem posTook_apply (p : FVec Ideal S157x16 .f32) (d : Fin 157) (h : Fin 16) : posTook p (ix2 d h) = p (ix2 d h) := by
  have e := posInRange_apply d
  rw [← read_pos p posStarts d h (posStarts_apply d)]
  generalize hw : posInRange = W at e
  generalize hk : Host.gather gather_S157x16_S157x1_S157x16_1_0_n_n_0_1_116 p posStarts = K
  pointwise [posTook, hw, hk]
  rw [e]
  rfl

/-- A feature's embedding. -/
theorem embed_apply (t : FVec Ideal S11x7x16 .f32) (w b : FVec Ideal S146x16 .f32) (na : FVec Ideal S1x16 .f32)
    (hrow : ∀ (r : Fin 20480) (d : Fin 157), d.val < 11 → (word (rows X (ix2 r d))).toNat < 7)
    (r : Fin 20480) (d : Fin 157) (h : Fin 16) :
    embed X t w b na (ix3 r d h) = entry (fun d => rows X (ix2 r d)) t w b d h := by
  have e0 := fun d => took_apply X t hrow d r h
  have e1 := fun d => lines_apply X w b r d h
  unfold entry
  have e2 : (if hd : d.val < 11 then
        t (ix3 ⟨d.val, hd⟩ ⟨(word (rows X (ix2 r d))).toNat % 7, Nat.mod_lt _ (by omega)⟩ h)
      else rows X (ix2 r d) * w (ix2 ⟨d.val - 11, by omega⟩ h) + b (ix2 ⟨d.val - 11, by omega⟩ h))
      = if hd : d.val < 11 then took X t (ix3 ⟨d.val, hd⟩ r h) else lines X w b (ix3 r ⟨d.val - 11, by omega⟩ h) := by
    by_cases hd : d.val < 11
    · rw [dif_pos hd, dif_pos hd, e0]
    · have hv : (⟨11 + (d.val - 11), by omega⟩ : Fin 157) = d := Fin.ext (by show 11 + (d.val - 11) = d.val; omega)
      rw [dif_neg hd, dif_neg hd, e1, hv]
  refine Eq.trans ?_ e2.symm
  generalize hw : took X t = T
  generalize hk : lines X w b = L
  pointwise [embed, hw, hk]
  exact if_neg (fun h => h rfl)

/-- The sum at a place. -/
theorem total_apply (t : FVec Ideal S11x7x16 .f32) (w b : FVec Ideal S146x16 .f32) (na : FVec Ideal S1x16 .f32)
    (p : FVec Ideal S157x16 .f32)
    (hrow : ∀ (r : Fin 20480) (d : Fin 157), d.val < 11 → (word (rows X (ix2 r d))).toNat < 7)
    (r : Fin 20480) (k : Fin 2512) :
    total X t w b na p (ix2 r k) = entry (fun d => rows X (ix2 r d)) t w b (feat k) (chan k) + posAt p k := by
  have e0 := embed_apply X t w b na hrow r (feat k) (chan k)
  have e1 := posTook_apply p ⟨k.val / 16, by omega⟩ ⟨k.val % 16, by omega⟩
  unfold posAt
  rw [← e0, ← e1]
  generalize hw : embed X t w b na = E
  generalize hk : posTook p = P
  pointwise [total, hw, hk]

/-- An error function's value is a real. -/
theorem erf_real (x : EReal) : ∃ r : ℝ, Ideal.erf x = r := by
  induction x with
  | bot => exact ⟨-1, by rw [Ideal.erf_bot]; rfl⟩
  | coe x => exact ⟨_, Ideal.erf_coe x⟩
  | top => exact ⟨1, by rw [Ideal.erf_top]; rfl⟩

/-- The reference's one half is one half. -/
theorem half_eq : Ideal.ofBits .f32 0x3F000000#32 = (((1 : ℝ) / 2 : ℝ) : EReal) := by
  simp [Ideal.ofBits, Ideal.ieee, -EReal.coe_mul]
  norm_num

/-- Half the argument times the complementary error function of its negated multiple is the argument's gelu. -/
theorem half_erfc (y : EReal) : Ideal.ofBits .f32 0x3F000000#32 * y * Ideal.erfc (-y * Ideal.ofBits .f32 0x3F3504F3#32)
    = gelu y := by
  have e : gelu y = y * (Ideal.ofBits .f32 0x3F000000#32 + Ideal.ofBits .f32 0x3F000000#32
      * Ideal.erf (y * Ideal.ofBits .f32 0x3F3504F3#32)) := rfl
  rw [e, neg_mul, Ideal.erfc_neg]
  obtain ⟨r, hr⟩ := erf_real (y * Ideal.ofBits .f32 0x3F3504F3#32)
  rw [hr, half_eq, mul_comm (_ : EReal) y, mul_assoc]
  refine congrArg (y * ·) ?_
  rw [← EReal.coe_one, ← EReal.coe_add, ← EReal.coe_mul, ← EReal.coe_mul, ← EReal.coe_add]
  exact congrArg _ (by ring)

/-- The result at a place. -/
theorem result_apply (t : FVec Ideal S11x7x16 .f32) (w b : FVec Ideal S146x16 .f32) (na : FVec Ideal S1x16 .f32)
    (p : FVec Ideal S157x16 .f32)
    (hrow : ∀ (r : Fin 20480) (d : Fin 157), d.val < 11 → (word (rows X (ix2 r d))).toNat < 7) :
    result X t w b na p = Cert.KernelIdeal.Final.G X t w b p := by
  funext i
  idx_vars i
  have e := total_apply X t w b na p hrow i0 i1
  show _ = gelu (entry (fun d => rows X (ix2 i0 d)) t w b (feat i1) (chan i1) + posAt p i1)
  rw [← e]
  generalize hw : total X t w b na p = T
  pointwise [result, hw]
  exact half_erfc _

end Cert.ReferenceIdeal.Stages

end
-- ==== Proof.Algebraic.lean ====
/- The kernel and the reference end with equal results where the precondition holds. -/
module

public import proofs.«01_k».proof.Proof.Range
public import proofs.«01_k».proof.Proof.R.Values

@[expose] public section

set_option maxRecDepth 16384

noncomputable section

namespace Cert.Proof

open Idealize.ShloMosaic Idealize.ShloMosaic.TcCoe Idealize.SL.Sem

/-- From memories that agree on the arguments, the kernel's result and the reference's are the same array: at each place
the gelu of the feature's embedding plus the position. -/
theorem algebraic : Cert.algebraic_KernelIdeal_ReferenceIdeal_pre_indices_and_offsets_in_range
    (hKernelIdeal := Cert.KernelIdeal.Gen.facts) (hReferenceIdeal := Cert.ReferenceIdeal.Gen.facts)
    (hPre_indices_and_offsets_in_range := Cert.Pre_indices_and_offsets_in_range.Gen.facts) := by
  intro m g m' g' hpre hag
  have hg := fun c : Dev Cert.KernelIdeal.nD => Cert.Range.good _ _ _ _ _ _ (fun k => k.elim0) (congrFun (hpre c) _)
  refine ⟨fun c => Cert.KernelIdeal.Final.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · exact (θ_run _ _ _).mono (fun r h c => ⟨(h c).1.trans (Cert.KernelIdeal.Final.final m c (hg c)), (h c).2⟩)
      (Cert.KernelIdeal.Value.run_blocks m g)
  · refine (θ_run _ _ _).mono (fun r h c => ⟨(h c).1.trans ?_, (h c).2⟩) (Cert.ReferenceIdeal.Value.run m' g')
    obtain ⟨a0, a1, a2, a3, a4, a5⟩ := hag c
    rw [Cert.ReferenceIdeal.Stages.res_eq, a0, a1, a2, a3, a4, a5]
    exact Cert.ReferenceIdeal.Stages.result_apply _ _ _ _ _ _ (hg c).row

end Cert.Proof

end
-- ==== Proof.lean ====
module

public import proofs.«01_k».proof.Proof.Frames
public import proofs.«01_k».proof.Proof.Algebraic
public import proofs.«01_k».proof.Proof.Gen.KernelIdeal.Value
public import proofs.«01_k».proof.Proof.Gen.Pre_indices_and_offsets_in_range

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Pre_indices_and_offsets_in_range.Gen.facts, quiescent_kernel, quiescent_kernelIdeal, quiescent_kernelIdeal_pre,
    quiescent_referenceIdeal, quiescent_referenceIdeal_pre, trivial, algebraic⟩

end Cert.Proof

end
